-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S64x131072x3 : Shape := ⟨3, ![64, 131072, 3]⟩
abbrev S64x131072 : Shape := ⟨2, ![64, 131072]⟩
abbrev S3 : Shape := ⟨1, ![3]⟩
abbrev S_ : Shape := ⟨0, ![]⟩

class Facts : Prop where
  bcast_S_S64x131072x3 : S_.BroadcastsInDim S64x131072x3 (![] : Fin 0 → Fin S64x131072x3.rank)
  reducesTo_S64x131072x3_S_d0_1_2 : S64x131072x3.ReducesTo [0, 1, 2] S_
  h_S_ : 0 < S_.numel
  bcast_S_S64x131072 : S_.BroadcastsInDim S64x131072 (![] : Fin 0 → Fin S64x131072.rank)
  reducesTo_S64x131072_S_d0_1 : S64x131072.ReducesTo [0, 1] S_

variable [Facts]

def fn {F : FTy → Type} [FloatOps F] (main_arg0 : FVec F S64x131072x3 .f32) (main_arg1 : IVec S64x131072 32) (main_arg2 : FVec F S3 .f32) : IVec S_ 1 :=
  let main_v0 : FVec F S64x131072x3 .f32 := Host.absf main_arg0
  let main_cst : FVec F S_ .f32 := constant S_ .f32 0x7F800000#32
  let main_v1 : FVec F S64x131072x3 .f32 := broadcastInDim S64x131072x3 ![] bcast_S_S64x131072x3 main_cst
  let main_v2 : IVec S64x131072x3 1 := cmpf .olt main_v0 main_v1
  let main_c : IVec S_ 1 := constantI S_ 1 1#1
  let main_v3 : IVec S_ 1 := (fun x v => Host.reduce IntOp.andi x v reducesTo_S64x131072x3_S_d0_1_2 h_S_) main_v2 main_c
  let main_c_0 : IVec S_ 32 := constantI S_ 32 0#32
  let main_v4 : IVec S64x131072 32 := broadcastInDim S64x131072 ![] bcast_S_S64x131072 main_c_0
  let main_v5 : IVec S64x131072 1 := cmpi .sge main_arg1 main_v4
  let main_c_1 : IVec S_ 32 := constantI S_ 32 3#32
  let main_v6 : IVec S64x131072 32 := broadcastInDim S64x131072 ![] bcast_S_S64x131072 main_c_1
  let main_v7 : IVec S64x131072 1 := cmpi .slt main_arg1 main_v6
  let main_v8 : IVec S64x131072 1 := andi main_v5 main_v7
  let main_c_2 : IVec S_ 1 := constantI S_ 1 1#1
  let main_v9 : IVec S_ 1 := (fun x v => Host.reduce IntOp.andi x v reducesTo_S64x131072_S_d0_1 h_S_) main_v8 main_c_2
  let main_v10 : IVec S_ 1 := andi main_v3 main_v9
  main_v10
-- ==== Kernel.lean ====
abbrev S64x131072x3 : Shape := ⟨3, ![64, 131072, 3]⟩
abbrev S64x131072 : Shape := ⟨2, ![64, 131072]⟩
abbrev S3 : Shape := ⟨1, ![3]⟩
abbrev S3x64x131072 : Shape := ⟨3, ![3, 64, 131072]⟩
abbrev S64x128 : Shape := ⟨2, ![64, 128]⟩
abbrev S64x1 : Shape := ⟨2, ![64, 1]⟩
abbrev S64 : Shape := ⟨1, ![64]⟩
abbrev S_ : Shape := ⟨0, ![]⟩
abbrev S3x8x65536 : Shape := ⟨3, ![3, 8, 65536]⟩
abbrev S8x65536 : Shape := ⟨2, ![8, 65536]⟩
abbrev S8x128 : Shape := ⟨2, ![8, 128]⟩
abbrev S1x8x65536 : Shape := ⟨3, ![1, 8, 65536]⟩
abbrev S1 : Shape := ⟨1, ![1]⟩
abbrev S8x65792 : Shape := ⟨2, ![8, 65792]⟩
abbrev S8 : Shape := ⟨1, ![8]⟩
abbrev S8x1 : Shape := ⟨2, ![8, 1]⟩

abbrev nBuf : Space → Nat
  | .hbm => 28
  | .vmem => 16
  | .smem => 1
  | _ => 0

abbrev bufTy : (tb : Table) → Fin (tcTables nBuf tb) → BufTy
  | .hbm, ⟨0, _⟩ => ⟨S64x131072x3, .f32⟩
  | .hbm, ⟨1, _⟩ => ⟨S64x131072, .i32⟩
  | .hbm, ⟨2, _⟩ => ⟨S3, .f32⟩
  | .hbm, ⟨3, _⟩ => ⟨S3x64x131072, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x1, .f32⟩
  | .hbm, ⟨9, _⟩ => ⟨S64, .f32⟩
  | .hbm, ⟨10, _⟩ => ⟨S64x1, .f32⟩
  | .hbm, ⟨11, _⟩ => ⟨S64, .f32⟩
  | .hbm, ⟨12, _⟩ => ⟨S64x1, .f32⟩
  | .hbm, ⟨13, _⟩ => ⟨S64, .f32⟩
  | .hbm, ⟨14, _⟩ => ⟨S64x1, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .i1⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S3x8x65536, .f32⟩
  | .local _ .vmem, ⟨1, _⟩ => ⟨S3x8x65536, .f32⟩
  | .local _ .vmem, ⟨2, _⟩ => ⟨S8x65536, .i32⟩
  | .local _ .vmem, ⟨3, _⟩ => ⟨S8x65536, .i32⟩
  | .local _ .vmem, ⟨4, _⟩ => ⟨S8x128, .i32⟩
  | .local _ .vmem, ⟨5, _⟩ => ⟨S8x128, .i32⟩
  | .local _ .vmem, ⟨6, _⟩ => ⟨S8x128, .i32⟩
  | .local _ .vmem, ⟨7, _⟩ => ⟨S8x128, .i32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .smem, ⟨0, _⟩ => ⟨S3, .f32⟩
  | _, _ => ⟨S64x131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_call0_v1_1 : Ref sig .tc := ⟨.hbm, 5, rfl⟩
abbrev main_call0_v1_2 : Ref sig .tc := ⟨.hbm, 6, rfl⟩
abbrev main_call0_v1_3 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_cst : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_cst_0 : Ref sig .tc := ⟨.hbm, 20, rfl⟩
abbrev main_call0_call1_v0 : Ref sig .tc := ⟨.hbm, 21, rfl⟩
abbrev main_call0_v13 : Ref sig .tc := ⟨.hbm, 22, rfl⟩
abbrev main_call0_cst_1 : Ref sig .tc := ⟨.hbm, 23, rfl⟩
abbrev main_call0_v14 : Ref sig .tc := ⟨.hbm, 24, rfl⟩
abbrev main_call0_cst_2 : Ref sig .tc := ⟨.hbm, 25, rfl⟩
abbrev main_call0_v15 : Ref sig .tc := ⟨.hbm, 26, rfl⟩
abbrev main_v0 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32_34 : BitVec 32 := 0#32
  let v101 : BitVec 1 := Scalar.cmpi .eq arg1 c0_i32_34
  let v102 : BitVec 32 := Scalar.extui v101
  let c0_i32_35 : BitVec 32 := 0#32
  let v103 : BitVec 1 := Scalar.cmpi .ne v102 c0_i32_35
  v103

def k0_cond2 (i : grid0.Coords) : BitVec 1 :=
  let arg1 : BitVec 32 := BitVec.ofNat 32 (i 1).val
  let c0_i32_36 : BitVec 32 := 0#32
  let v104 : BitVec 1 := Scalar.cmpi .sgt arg1 c0_i32_36
  let v105 : BitVec 32 := Scalar.extui v104
  let c0_i32_37 : BitVec 32 := 0#32
  let v106 : BitVec 1 := Scalar.cmpi .ne v105 c0_i32_37
  v106

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c1023_i32 : BitVec 32 := 1023#32
  let v2 : BitVec 32 := Scalar.minsi v1 c1023_i32
  let c0_i32 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3x8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x65536 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S64x131072x3 : Shape := ⟨3, ![64, 131072, 3]⟩
abbrev S64x131072 : Shape := ⟨2, ![64, 131072]⟩
abbrev S3 : Shape := ⟨1, ![3]⟩
abbrev S_ : Shape := ⟨0, ![]⟩
abbrev S64x1 : Shape := ⟨2, ![64, 1]⟩
abbrev S64x131073 : Shape := ⟨2, ![64, 131073]⟩
abbrev S131072 : Shape := ⟨1, ![131072]⟩
abbrev S131072x1 : Shape := ⟨2, ![131072, 1]⟩
abbrev S64 : Shape := ⟨1, ![64]⟩
abbrev S64x131072x1 : Shape := ⟨3, ![64, 131072, 1]⟩
abbrev S64x131072x1x1 : Shape := ⟨4, ![64, 131072, 1, 1]⟩
abbrev S1 : Shape := ⟨1, ![1]⟩
abbrev S1x1x1x1 : Shape := ⟨4, ![1, 1, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S64x131072x3, .f32⟩
  | .hbm, ⟨1, _⟩ => ⟨S64x131072, .i32⟩
  | .hbm, ⟨2, _⟩ => ⟨S3, .f32⟩
  | .hbm, ⟨3, _⟩ => ⟨S_, .i32⟩
  | .hbm, ⟨4, _⟩ => ⟨S64x131072, .i32⟩
  | .hbm, ⟨5, _⟩ => ⟨S64x131072, .i1⟩
  | .hbm, ⟨6, _⟩ => ⟨S64x131072, .i32⟩
  | .hbm, ⟨7, _⟩ => ⟨S_, .i32⟩
  | .hbm, ⟨8, _⟩ => ⟨S_, .i32⟩
  | .hbm, ⟨9, _⟩ => ⟨S64x131072, .i32⟩
  | .hbm, ⟨10, _⟩ => ⟨S_, .i32⟩
  | .hbm, ⟨11, _⟩ => ⟨S64x1, .i32⟩
  | .hbm, ⟨12, _⟩ => ⟨S64x131073, .i32⟩
  | .hbm, ⟨13, _⟩ => ⟨S131072, .i32⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S_, .i32⟩
  | .hbm, ⟨18, _⟩ => ⟨S131072, .i32⟩
  | .hbm, ⟨19, _⟩ => ⟨S131072, .i32⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S_, .i32⟩
  | .hbm, ⟨24, _⟩ => ⟨S131072, .i32⟩
  | .hbm, ⟨25, _⟩ => ⟨S131072, .i32⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S131072x1, .i32⟩
  | .hbm, ⟨37, _⟩ => ⟨S64x131072, .i32⟩
  | .hbm, ⟨38, _⟩ => ⟨S_, .i32⟩
  | .hbm, ⟨39, _⟩ => ⟨S131072, .i32⟩
  | .hbm, ⟨40, _⟩ => ⟨S131072, .i1⟩
  | .hbm, ⟨41, _⟩ => ⟨S_, .i32⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S131072x1, .i32⟩
  | .hbm, ⟨46, _⟩ => ⟨S64x131072, .i32⟩
  | .hbm, ⟨47, _⟩ => ⟨S64x131072, .i32⟩
  | .hbm, ⟨48, _⟩ => ⟨S_, .i32⟩
  | .hbm, ⟨49, _⟩ => ⟨S64x131072, .i32⟩
  | .hbm, ⟨50, _⟩ => ⟨S64x131072, .i1⟩
  | .hbm, ⟨51, _⟩ => ⟨S_, .i1⟩
  | .hbm, ⟨52, _⟩ => ⟨S64, .i1⟩
  | .hbm, ⟨53, _⟩ => ⟨S64x1, .i1⟩
  | .hbm, ⟨54, _⟩ => ⟨S_, .i1⟩
  | .hbm, ⟨55, _⟩ => ⟨S64x131072, .i1⟩
  | .hbm, ⟨56, _⟩ => ⟨S64x131072, .i1⟩
  | .hbm, ⟨57, _⟩ => ⟨S64x131072, .i1⟩
  | .hbm, ⟨58, _⟩ => ⟨S_, .f32⟩
  | .hbm, ⟨59, _⟩ => ⟨S64x131072, .f32⟩
  | .hbm, ⟨60, _⟩ => ⟨S_, .f32⟩
  | .hbm, ⟨61, _⟩ => ⟨S64x131072, .f32⟩
  | .hbm, ⟨62, _⟩ => ⟨S64x131072, .f32⟩
  | .hbm, ⟨63, _⟩ => ⟨S64x131072x1, .f32⟩
  | .hbm, ⟨64, _⟩ => ⟨S64x131072x3, .f32⟩
  | .hbm, ⟨65, _⟩ => ⟨S64x131072x3, .f32⟩
  | .hbm, ⟨66, _⟩ => ⟨S64x131072x3, .f32⟩
  | .hbm, ⟨67, _⟩ => ⟨S_, .f32⟩
  | .hbm, ⟨68, _⟩ => ⟨S64x131072, .f32⟩
  | .hbm, ⟨69, _⟩ => ⟨S64x131072x1, .f32⟩
  | .hbm, ⟨70, _⟩ => ⟨S64x131072x1, .f32⟩
  | .hbm, ⟨71, _⟩ => ⟨S64x131072x3, .f32⟩
  | .hbm, ⟨72, _⟩ => ⟨S64x131072x3, .f32⟩
  | .hbm, ⟨73, _⟩ => ⟨S64x131072x1, .i32⟩
  | .hbm, ⟨74, _⟩ => ⟨S_, .i32⟩
  | .hbm, ⟨75, _⟩ => ⟨S64x131072x1, .i32⟩
  | .hbm, ⟨76, _⟩ => ⟨S64x131072x1, .i1⟩
  | .hbm, ⟨77, _⟩ => ⟨S_, .i32⟩
  | .hbm, ⟨78, _⟩ => ⟨S64x131072x1, .i32⟩
  | .hbm, ⟨79, _⟩ => ⟨S64x131072x1, .i32⟩
  | .hbm, ⟨80, _⟩ => ⟨S64x131072x1, .i32⟩
  | .hbm, ⟨81, _⟩ => ⟨S64x131072x1x1, .i32⟩
  | .hbm, ⟨82, _⟩ => ⟨S1, .i32⟩
  | .hbm, ⟨83, _⟩ => ⟨S_, .i32⟩
  | .hbm, ⟨84, _⟩ => ⟨S64x131072x1x1, .i32⟩
  | .hbm, ⟨85, _⟩ => ⟨S64x131072x1x1, .i1⟩
  | .hbm, ⟨86, _⟩ => ⟨S1x1x1x1, .i32⟩
  | .hbm, ⟨87, _⟩ => ⟨S64x131072x1x1, .i32⟩
  | .hbm, ⟨88, _⟩ => ⟨S64x131072x1x1, .i1⟩
  | .hbm, ⟨89, _⟩ => ⟨S64x131072x1x1, .i1⟩
  | .hbm, ⟨90, _⟩ => ⟨S_, .i1⟩
  | .hbm, ⟨91, _⟩ => ⟨S64x131072x1, .i1⟩
  | .hbm, ⟨92, _⟩ => ⟨S64x131072x1, .f32⟩
  | .hbm, ⟨93, _⟩ => ⟨S_, .f32⟩
  | .hbm, ⟨94, _⟩ => ⟨S64x131072x1, .f32⟩
  | .hbm, ⟨95, _⟩ => ⟨S64x131072x1, .f32⟩
  | .hbm, ⟨96, _⟩ => ⟨S64x131072, .f32⟩
  | .hbm, ⟨97, _⟩ => ⟨S64x131072, .f32⟩
  | .hbm, ⟨98, _⟩ => ⟨S64x131072, .f32⟩
  | .hbm, ⟨99, _⟩ => ⟨S64x131072, .f32⟩
  | .hbm, ⟨100, _⟩ => ⟨S_, .i32⟩
  | .hbm, ⟨101, _⟩ => ⟨S64x131072, .i32⟩
  | .hbm, ⟨102, _⟩ => ⟨S64x131072, .i1⟩
  | .hbm, ⟨103, _⟩ => ⟨S_, .i32⟩
  | .hbm, ⟨104, _⟩ => ⟨S64x131072, .i32⟩
  | .hbm, ⟨105, _⟩ => ⟨S64x131072, .i32⟩
  | .hbm, ⟨106, _⟩ => ⟨S64x131072, .i32⟩
  | .hbm, ⟨107, _⟩ => ⟨S64x131072x1, .i32⟩
  | .hbm, ⟨108, _⟩ => ⟨S64x131072, .f32⟩
  | .hbm, ⟨109, _⟩ => ⟨S_, .f32⟩
  | .hbm, ⟨110, _⟩ => ⟨S64x131072, .f32⟩
  | .hbm, ⟨111, _⟩ => ⟨S64x131072, .f32⟩
  | .hbm, ⟨112, _⟩ => ⟨S_, .f32⟩
  | .hbm, ⟨113, _⟩ => ⟨S64x131072, .f32⟩
  | .hbm, ⟨114, _⟩ => ⟨S64x131072, .f32⟩
  | .hbm, ⟨115, _⟩ => ⟨S64x131072, .f32⟩
  | .hbm, ⟨116, _⟩ => ⟨S64x131072, .f32⟩
  | .hbm, ⟨117, _⟩ => ⟨S64x131072, .f32⟩
  | .hbm, ⟨118, _⟩ => ⟨S64x131072, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S64x131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_c_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_c_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_10 : Ref sig .tc := ⟨.hbm, 48, rfl⟩
abbrev main_v32 : Ref sig .tc := ⟨.hbm, 49, rfl⟩
abbrev main_v33 : Ref sig .tc := ⟨.hbm, 50, rfl⟩
abbrev main_c_11 : Ref sig .tc := ⟨.hbm, 51, rfl⟩
abbrev main_v34 : Ref sig .tc := ⟨.hbm, 52, rfl⟩
abbrev main_v35 : Ref sig .tc := ⟨.hbm, 53, rfl⟩
abbrev main_c_12 : Ref sig .tc := ⟨.hbm, 54, rfl⟩
abbrev main_call1_v0 : Ref sig .tc := ⟨.hbm, 55, rfl⟩
abbrev main_call1_v1 : Ref sig .tc := ⟨.hbm, 56, rfl⟩
abbrev main_v36 : Ref sig .tc := ⟨.hbm, 57, rfl⟩
abbrev main_call2_cst : Ref sig .tc := ⟨.hbm, 58, rfl⟩
abbrev main_call2_v0 : Ref sig .tc := ⟨.hbm, 59, rfl⟩
abbrev main_call2_cst_0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_cst_1 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_v37 : Ref sig .tc := ⟨.hbm, 72, rfl⟩
abbrev main_v38 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_cst : Ref sig .tc := ⟨.hbm, 93, rfl⟩
abbrev main_call3_v14 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_c_13 : Ref sig .tc := ⟨.hbm, 100, rfl⟩
abbrev main_v44 : Ref sig .tc := ⟨.hbm, 101, rfl⟩
abbrev main_v45 : Ref sig .tc := ⟨.hbm, 102, rfl⟩
abbrev main_c_14 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_cst : Ref sig .tc := ⟨.hbm, 109, rfl⟩
abbrev main_v51 : Ref sig .tc := ⟨.hbm, 110, rfl⟩
abbrev main_v52 : Ref sig .tc := ⟨.hbm, 111, rfl⟩
abbrev main_cst_15 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_16 : Ref sig .tc := ⟨.hbm, 119, rfl⟩
abbrev main_v59 : Ref sig .tc := ⟨.hbm, 120, rfl⟩
abbrev main_cst_17 : Ref sig .tc := ⟨.hbm, 121, rfl⟩
abbrev main_v60 : Ref sig .tc := ⟨.hbm, 122, rfl⟩
abbrev main_v61 : Ref sig .tc := ⟨.hbm, 123, rfl⟩

abbrev nD : Nat := 1
abbrev τ : Topo := Topo.v7x

variable {F : FTy → Type} [FloatOps F]
-- ==== Proof.Blocks.lean ====
/-
  What the grid points stage: which entries of the arguments each block holds.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Blocks

open Cert.KernelIdeal Cert.KernelIdeal.Gen Idealize.ShloMosaic Idealize.ShloMosaic.TcCoe Idealize.SL.Sem

/-- Which block of its array each window stages at a grid point. -/
theorem idx : ∀ t : Fin grid0.N, win0_0.index t = ![0] ∧ win0_1.index t = ![0, t.val / 2, t.val % 2]
    ∧ win0_2.index t = ![t.val / 2, t.val % 2] ∧ win0_3.index t = ![t.val / 2, t.val % 2 * 511]
    ∧ win0_4.index t = ![t.val / 2, 512 + t.val % 2 * 511] ∧ win0_5.index t = ![t.val / 2, 0]
    ∧ win0_6.index t = ![t.val / 2, 0] ∧ win0_7.index t = ![t.val / 2, 0] ∧ win0_8.index t = ![t.val / 2, 0]
    ∧ (grid0.coords t 1).val = t.val % 2 := by
  decide +kernel

theorem lt_N (t : Fin cfg0.N) : t.val < 16 := lt_of_lt_of_eq t.isLt (show cfg0.N = 16 from N_0)

variable (m : (ℓ : Loc nD τ sig) → Buf (Elt Ideal) ℓ) (c : Dev nD)

/-- The logits, the targets and the class weights as the run finds them. -/
def logits : FVec Ideal S64x131072x3 .f32 := m ((c.tc : Thread nD τ).loc main_arg0)
def targets : IVec S64x131072 32 := m ((c.tc : Thread nD τ).loc main_arg1)
def weights : FVec Ideal S3 .f32 := m ((c.tc : Thread nD τ).loc main_arg2)

/-- The row of the arrays that row `a` of the blocks at point `t` is. -/
def row (t : Fin cfg0.N) (a : Fin 8) : Fin 64 := ⟨8 * (t.val / 2) + a.val, by have := lt_N t; omega⟩

/-- The column of the arrays that column `b` of the blocks at point `t` is. -/
def col (t : Fin cfg0.N) (b : Fin 65536) : Fin 131072 := ⟨65536 * (t.val % 2) + b.val, by omega⟩

theorem targets_at (t : Fin cfg0.N) (a : Fin 8) (b : Fin 65536) :
    (iblk m c 2 t : IVec S8x65536 32) (ix2 a b) = targets m c (ix2 (row t a) (col t b)) := by
  have hi := idx t
  unfold targets row col
  blk_ext [iblk, V, hi]

theorem before_at (t : Fin cfg0.N) (a : Fin 8) (b : Fin 128) :
    (iblk m c 3 t : IVec S8x128 32) (ix2 a b)
      = targets m c (ix2 (row t a) ⟨t.val % 2 * 511 * 128 + b.val, by omega⟩) := by
  have hi := idx t
  unfold targets row
  blk_ext [iblk, V, hi]

theorem after_at (t : Fin cfg0.N) (a : Fin 8) (b : Fin 128) :
    (iblk m c 4 t : IVec S8x128 32) (ix2 a b)
      = targets m c (ix2 (row t a) ⟨(512 + t.val % 2 * 511) * 128 + b.val, by omega⟩) := by
  have hi := idx t
  unfold targets row
  blk_ext [iblk, V, hi]

theorem weights_at (t : Fin cfg0.N) (k : Fin 3) :
    (iblk m c 0 t : FVec Ideal S3 .f32) (ix1 k) = weights m c (ix1 k) := by
  have hi := idx t
  unfold weights
  blk_ext [iblk, V, hi]

/-- The logits as the blocks are staged from, class first. -/
theorem turned_at (k : Fin 3) (r : Fin 64) (l : Fin 131072) :
    (V m c main_call0_v0 : FVec Ideal S3x64x131072 .f32) (ix3 k r l) = logits m c (ix3 r l k) := by
  unfold logits
  show (StableHlo.after hostOps0 (fun b => m (c, b)) (Proc.devRef .tc main_call0_v0) : FVec Ideal S3x64x131072 .f32)
    (ix3 k r l) = _
  after_results_simp
  show transpose S3x64x131072 [2, 0, 1] (m ((c.tc : Thread nD τ).loc main_arg0) : FVec Ideal S64x131072x3 .f32)
    transposes_S64x131072x3_S3x64x131072_2_0_1 (ix3 k r l) = _
  pointwise

theorem logits_at (t : Fin cfg0.N) (k : Fin 3) (a : Fin 8) (b : Fin 65536) :
    (iblk m c 1 t : FVec Ideal S3x8x65536 .f32) (ix3 k a b) = logits m c (ix3 (row t a) (col t b) k) := by
  have hi := idx t
  refine Eq.trans ?_ (turned_at m c k (row t a) (col t b))
  unfold row col
  blk_ext [iblk, hi]

end Cert.Blocks
-- ==== Proof.Dilate.lean ====
/-
  The kernel's mask of one block. Each stage takes the greater of the marks and the marks some columns to the right; so the
  marks spread to the left, stage by stage, until a column is marked exactly when one of the next 201 columns was.
-/
module

public import proofs.«01_k».proof.Proof.Gen.KernelIdeal.Skeleton
public import Idealize.ShloMosaic.Lib.Pointwise

@[expose] public section

set_option maxRecDepth 16384

noncomputable section

namespace Cert.Dilate

open Cert.KernelIdeal Cert.KernelIdeal.Gen Idealize.ShloMosaic

open Classical in
/-- One where the statement holds and zero elsewhere. -/
def ind (p : Prop) : EReal := if p then 1 else 0

theorem ind_congr {p q : Prop} (h : p ↔ q) : ind p = ind q := congrArg ind (propext h)

theorem max_ind (p q : Prop) : max (ind p) (ind q) = ind (p ∨ q) := by
  unfold ind
  by_cases hp : p <;> by_cases hq : q <;> simp [hp, hq]

/-- `v` marks the columns from which one of the next `n` columns is one of `P`, at least where those columns exist. -/
def Has (P : Fin 8 → Nat → Prop) (v : FVec Ideal S8x65792 .f32) (n : Nat) : Prop :=
  ∀ (a : Fin 8) (b : Fin 65792), b.val + n ≤ 65792 → v (ix2 a b) = ind (∃ q, b.val ≤ q ∧ q < b.val + n ∧ P a q)

/-- The greater of two reads, of a matrix and of the matrix turned right by `k` columns. -/
theorem rotate_at (v : FVec Ideal S8x65792 .f32) (k : BitVec 32) (h : S8x65792.Rotates 1 none) (a : Fin 8) (b b' : Fin 65792)
    (hb : b'.val = (b.val + 65792 - k.toNat % 65792) % 65792) :
    (maximumf v (dynamicRotate 1 k none v h)) (ix2 a b) = max (v (ix2 a b)) (v (ix2 a b')) := by
  pointwise
  exact congrArg (fun c => max (v (ix2 a b)) (v (ix2 a c))) (Fin.ext hb.symm)

theorem Has.step {P : Fin 8 → Nat → Prop} {v : FVec Ideal S8x65792 .f32} {n : Nat} (hv : Has P v n) (s : Nat) (k : BitVec 32)
    (h : S8x65792.Rotates 1 none) (hs : 0 < s) (hsn : s ≤ n) (hk : k.toNat + s = 65792) :
    Has P (maximumf v (dynamicRotate 1 k none v h)) (n + s) := by
  intro a b hb
  have h1 := hv a b (by omega)
  have h2 := hv a ⟨b.val + s, by omega⟩ (by show b.val + s + n ≤ 65792; omega)
  rw [rotate_at v k h a b ⟨b.val + s, by omega⟩ (by show b.val + s = _; omega), h1, h2, max_ind]
  refine ind_congr ⟨?_, ?_⟩
  · rintro (⟨q, e1, e2, e3⟩ | ⟨q, e1, e2, e3⟩)
    · exact ⟨q, e1, by omega, e3⟩
    · exact ⟨q, by have : b.val + s ≤ q := e1; omega, by have : q < b.val + s + n := e2; omega, e3⟩
  · rintro ⟨q, e1, e2, e3⟩
    rcases Nat.lt_or_ge q (b.val + n) with e | e
    · exact .inl ⟨q, e1, e, e3⟩
    · exact .inr ⟨q, by show b.val + s ≤ q; omega, by show q < b.val + s + n; omega, e3⟩

/-- One stage of the spreading. -/
def stage (k : BitVec 32) (v : FVec Ideal S8x65792 .f32) : FVec Ideal S8x65792 .f32 :=
  maximumf v (dynamicRotate 1 k none v rotates_S8x65792_d1)

/-- The marks of a halo: the positive targets, where the block has a neighbour on that side. -/
def haloMarks (x : IVec S8x128 32) (c : BitVec 1) : FVec Ideal S8x128 .f32 :=
  select (andi (cmpi .sgt x (broadcast S8x128 0#32)) (broadcast S8x128 c)) (broadcast S8x128 (Scalar.ofBits .f32 0x3F800000#32))
    (broadcast S8x128 (Scalar.ofBits .f32 0x00000000#32))

/-- The three pieces side by side. -/
def joined (p : FVec Ideal S8x128 .f32) (v : FVec Ideal S8x65536 .f32) (n : FVec Ideal S8x128 .f32) : FVec Ideal S8x65792 .f32 :=
  concatenate S8x65792 1 [⟨S8x128, p⟩, ⟨S8x65536, v⟩, ⟨S8x128, n⟩] concatenates_S8x128_S8x65536_S8x128_S8x65792_d1

/-- The marks of a block between its halos. -/
def padded (w : BitVec 32) (v6 : IVec S8x65536 32) (v47 v56 : IVec S8x128 32) : FVec Ideal S8x65792 .f32 :=
  joined (haloMarks v47 (IntOp.cmpi .sgt w 0#32)) (k0_pay23 (F := Ideal) v6) (haloMarks v56 (IntOp.cmpi .slt w 1#32))

theorem joined_at (p : FVec Ideal S8x128 .f32) (v : FVec Ideal S8x65536 .f32) (n : FVec Ideal S8x128 .f32) (a : Fin 8) (b : Fin 65792) :
    joined p v n (ix2 a b) = if h : b.val < 128 then p (ix2 a ⟨b.val, h⟩)
      else if h' : b.val - 128 < 65536 then v (ix2 a ⟨b.val - 128, h'⟩)
      else n (ix2 a ⟨b.val - 128 - 65536, by have := b.isLt; omega⟩) := by
  unfold joined
  pointwise

theorem select_ind (c : BitVec 1) : Scalar.select c (1 : EReal) 0 = ind (c = 1#1) := by
  unfold ind
  by_cases h : c = 1#1
  · rw [if_pos h]; exact if_pos h
  · rw [if_neg h]; exact if_neg h

theorem and_bits (c d : BitVec 1) : IntOp.andi c d = 1#1 ↔ c = 1#1 ∧ d = 1#1 := by
  revert c d
  decide

theorem haloMarks_at (x : IVec S8x128 32) (c : BitVec 1) (a : Fin 8) (b : Fin 128) :
    haloMarks x c (ix2 a b) = ind (IntOp.cmpi .sgt (x (ix2 a b)) 0#32 = 1#1 ∧ c = 1#1) := by
  rw [← ind_congr (and_bits _ _), ← select_ind]
  unfold haloMarks
  pointwise

theorem marks_at (x : IVec S8x65536 32) (a : Fin 8) (b : Fin 65536) :
    k0_pay23 (F := Ideal) x (ix2 a b) = ind (IntOp.cmpi .sgt (x (ix2 a b)) 0#32 = 1#1) := by
  rw [← select_ind]
  unfold_payloads
  pointwise

/-- The marks of a block between its halos are those of `P`, where the three pieces are. -/
theorem padded_has (P : Fin 8 → Nat → Prop) (w : BitVec 32) (v6 : IVec S8x65536 32) (v47 v56 : IVec S8x128 32)
    (hprev : ∀ (a : Fin 8) (b : Fin 128), (IntOp.cmpi .sgt (v47 (ix2 a b)) 0#32 = 1#1 ∧ IntOp.cmpi .sgt w 0#32 = 1#1) ↔ P a b.val)
    (hmid : ∀ (a : Fin 8) (b : Fin 65536), IntOp.cmpi .sgt (v6 (ix2 a b)) 0#32 = 1#1 ↔ P a (b.val + 128))
    (hnext : ∀ (a : Fin 8) (b : Fin 128), (IntOp.cmpi .sgt (v56 (ix2 a b)) 0#32 = 1#1 ∧ IntOp.cmpi .slt w 1#32 = 1#1) ↔ P a (b.val + 65664)) :
    Has P (padded w v6 v47 v56) 1 := by
  intro a b hb
  have hone : (∃ q, b.val ≤ q ∧ q < b.val + 1 ∧ P a q) ↔ P a b.val :=
    ⟨fun ⟨q, h1, h2, h3⟩ => (show q = b.val by omega) ▸ h3, fun h => ⟨b.val, Nat.le_refl _, Nat.lt_succ_self _, h⟩⟩
  rw [ind_congr hone, padded, joined_at]
  by_cases h : b.val < 128
  · rw [dif_pos h, haloMarks_at]
    exact ind_congr (hprev a ⟨b.val, h⟩)
  · rw [dif_neg h]
    by_cases h' : b.val - 128 < 65536
    · rw [dif_pos h', marks_at]
      refine ind_congr ((hmid a ⟨b.val - 128, h'⟩).trans ?_)
      rw [show b.val - 128 + 128 = b.val by omega]
    · rw [dif_neg h', haloMarks_at]
      refine ind_congr ((hnext a ⟨b.val - 128 - 65536, by omega⟩).trans ?_)
      rw [show b.val - 128 - 65536 + 65664 = b.val by omega]

theorem slice_at (v : FVec Ideal S8x65792 .f32) (a : Fin 8) (b : Fin 65536) :
    (extractStridedSlice S8x65536 ![0, 28] v slices_S8x65792_o0_28_S8x65536) (ix2 a b) = v (ix2 a ⟨b.val + 28, by have := b.isLt; omega⟩) := by
  pointwise
  exact congrArg (fun c => v (ix2 a c)) (Fin.ext (Nat.add_comm 28 b.val))

theorem early_eq (w : BitVec 32) (v6 : IVec S8x65536 32) (v47 v56 : IVec S8x128 32) :
    k0_pay24 (F := Ideal) w v6 v47 v56
      = stage 65776#32 (stage 65784#32 (stage 65788#32 (stage 65790#32 (stage 65791#32 (padded w v6 v47 v56))))) := rfl

theorem late_eq (v : FVec Ideal S8x65792 .f32) :
    k0_pay1 (F := Ideal) v 65760#32 = extractStridedSlice S8x65536 ![0, 28] (stage 65719#32 (stage 65728#32 (stage 65760#32 v)))
      slices_S8x65792_o0_28_S8x65536 := rfl

/-- The kernel's mask of a block: a column is marked exactly when one of the 201 columns around it is one of `P`. -/
theorem mask_at (P : Fin 8 → Nat → Prop) (w : BitVec 32) (v6 : IVec S8x65536 32) (v47 v56 : IVec S8x128 32)
    (hprev : ∀ (a : Fin 8) (b : Fin 128), (IntOp.cmpi .sgt (v47 (ix2 a b)) 0#32 = 1#1 ∧ IntOp.cmpi .sgt w 0#32 = 1#1) ↔ P a b.val)
    (hmid : ∀ (a : Fin 8) (b : Fin 65536), IntOp.cmpi .sgt (v6 (ix2 a b)) 0#32 = 1#1 ↔ P a (b.val + 128))
    (hnext : ∀ (a : Fin 8) (b : Fin 128), (IntOp.cmpi .sgt (v56 (ix2 a b)) 0#32 = 1#1 ∧ IntOp.cmpi .slt w 1#32 = 1#1) ↔ P a (b.val + 65664))
    (a : Fin 8) (b : Fin 65536) :
    k0_pay1 (F := Ideal) (k0_pay24 (F := Ideal) w v6 v47 v56) 65760#32 (ix2 a b)
      = ind (∃ q, b.val + 28 ≤ q ∧ q < b.val + 28 + 201 ∧ P a q) := by
  have h0 := padded_has P w v6 v47 v56 hprev hmid hnext
  have h1 := h0.step 1 65791#32 rotates_S8x65792_d1 (by decide) (by decide) (by decide)
  have h2 := h1.step 2 65790#32 rotates_S8x65792_d1 (by decide) (by decide) (by decide)
  have h3 := h2.step 4 65788#32 rotates_S8x65792_d1 (by decide) (by decide) (by decide)
  have h4 := h3.step 8 65784#32 rotates_S8x65792_d1 (by decide) (by decide) (by decide)
  have h5 := h4.step 16 65776#32 rotates_S8x65792_d1 (by decide) (by decide) (by decide)
  have h6 := h5.step 32 65760#32 rotates_S8x65792_d1 (by decide) (by decide) (by decide)
  have h7 := h6.step 64 65728#32 rotates_S8x65792_d1 (by decide) (by decide) (by decide)
  have h8 := h7.step 73 65719#32 rotates_S8x65792_d1 (by decide) (by decide) (by decide)
  have hb := b.isLt
  rw [early_eq, late_eq, slice_at]
  exact h8 a ⟨b.val + 28, by omega⟩ (by show b.val + 28 + 201 ≤ 65792; omega)

end Cert.Dilate
-- ==== Proof.Focal.lean ====
/-
  One element's loss. The kernel writes the softmax of three logits through the differences to the first logit; the
  reference writes its logarithm through the differences to the largest. On finite logits and a class in range they
  are one number.
-/
module

public import Idealize.ShloMosaic.Lib.Pointwise

@[expose] public section

noncomputable section

namespace Cert.FocalLoss

open Idealize.ShloMosaic

/-- The class's own entry of a triple, as the kernel selects it. -/
def pick (t : BitVec 32) (a0 a1 a2 : EReal) : EReal :=
  Scalar.select (IntOp.cmpi .eq t 2#32) a2 (Scalar.select (IntOp.cmpi .eq t 1#32) a1 a0)

/-- The kernel's denominator: the sum of the exponentials of the differences to the first logit. -/
def expSum (x0 x1 x2 : EReal) : EReal := 1 + Ideal.exp (x1 - x0) + Ideal.exp (x2 - x0)

/-- The kernel's probability of the class. -/
def prob (t : BitVec 32) (x0 x1 x2 : EReal) : EReal :=
  pick t 1 (Ideal.exp (x1 - x0)) (Ideal.exp (x2 - x0)) * Ideal.div 1 (expSum x0 x1 x2)

/-- The kernel's cross entropy of the class. -/
def cross (t : BitVec 32) (x0 x1 x2 : EReal) : EReal :=
  Ideal.log (expSum x0 x1 x2) - pick t 0 (x1 - x0) (x2 - x0)

/-- The kernel's focal loss of one element. -/
def focal (t : BitVec 32) (x0 x1 x2 a0 a1 a2 : EReal) : EReal :=
  pick t a0 a1 a2 * ((1 - prob t x0 x1 x2) * (1 - prob t x0 x1 x2)) * cross t x0 x1 x2

/-- The reference's logarithm of the softmax at a logit `x`, the largest logit `m` and the sum of exponentials `s` given. -/
def logProb (x m s : EReal) : EReal := x - m - Ideal.log s

/-- The logarithm of the softmax of three reals at `y`, through the differences to `m`, against the one through the differences to `x0`. -/
theorem log_shift (x0 x1 x2 m y : ℝ) :
    (y - m) - Real.log (Real.exp (x0 - m) + Real.exp (x1 - m) + Real.exp (x2 - m))
      = -(Real.log (1 + Real.exp (x1 - x0) + Real.exp (x2 - x0)) - (y - x0)) := by
  have h : Real.exp (x0 - m) + Real.exp (x1 - m) + Real.exp (x2 - m)
      = Real.exp (x0 - m) * (1 + Real.exp (x1 - x0) + Real.exp (x2 - x0)) := by
    rw [mul_add, mul_add, ← Real.exp_add, ← Real.exp_add, mul_one]
    congr 3 <;> ring
  rw [h, Real.log_mul (Real.exp_pos _).ne' (by positivity), Real.log_exp]
  ring

/-- The kernel's probability is the exponential of the negated cross entropy. -/
theorem prob_shift (x0 x1 x2 y : ℝ) :
    Real.exp (y - x0) * (1 / (1 + Real.exp (x1 - x0) + Real.exp (x2 - x0)))
      = Real.exp (-(Real.log (1 + Real.exp (x1 - x0) + Real.exp (x2 - x0)) - (y - x0))) := by
  rw [neg_sub, Real.exp_sub (y - x0), Real.exp_log (by positivity), mul_one_div]

/-- The pattern of two, read as a number. -/
theorem ofBits_two : Ideal.ofBits .f32 0x40000000#32 = ((2 : ℝ) : EReal) := by
  simp [Ideal.ofBits, Ideal.ieee, -EReal.coe_mul]; norm_num

section Real
variable (x0 x1 x2 : ℝ)

theorem expSum_coe : expSum x0 x1 x2 = ((1 + Real.exp (x1 - x0) + Real.exp (x2 - x0) : ℝ) : EReal) := by
  unfold expSum
  rw [← EReal.coe_sub, ← EReal.coe_sub, Ideal.exp_coe, Ideal.exp_coe, ← EReal.coe_one, ← EReal.coe_add, ← EReal.coe_add]

end Real

/-- The selects as conditionals. -/
theorem pick_eq (t : BitVec 32) (a b c : EReal) : pick t a b c = if t = 2#32 then c else if t = 1#32 then b else a := by
  show Scalar.select (BitVec.ofBool (t == 2#32)) c (Scalar.select (BitVec.ofBool (t == 1#32)) b a) = _
  rw [Scalar.select_ofBool, Scalar.select_ofBool]
  simp only [beq_iff_eq]

/-- On finite logits the kernel's element is the reference's: `m` any real, `s` the sum of the exponentials of the
    differences to it, `y` the class's logit. -/
theorem focal_eq (t : BitVec 32) (x0 x1 x2 m : ℝ) (a0 a1 a2 : EReal) :
    focal t x0 x1 x2 a0 a1 a2
      = pick t a0 a1 a2
        * Ideal.pow (1 - Ideal.exp (- -(logProb (pick t x0 x1 x2) m
            (Ideal.exp ((x0 : EReal) - m) + Ideal.exp ((x1 : EReal) - m) + Ideal.exp ((x2 : EReal) - m))))) (Ideal.ofBits .f32 0x40000000#32)
        * -(logProb (pick t x0 x1 x2) m
            (Ideal.exp ((x0 : EReal) - m) + Ideal.exp ((x1 : EReal) - m) + Ideal.exp ((x2 : EReal) - m))) := by
  obtain ⟨y, hy, hd, he⟩ : ∃ y : ℝ, pick t x0 x1 x2 = y ∧ pick t 0 ((x1 : EReal) - x0) ((x2 : EReal) - x0) = ((y - x0 : ℝ) : EReal)
      ∧ pick t 1 (Ideal.exp ((x1 : EReal) - x0)) (Ideal.exp ((x2 : EReal) - x0)) = ((Real.exp (y - x0) : ℝ) : EReal) := by
    simp only [pick_eq]
    split
    · exact ⟨x2, rfl, (EReal.coe_sub _ _).symm, by rw [← EReal.coe_sub, Ideal.exp_coe]⟩
    · split
      · exact ⟨x1, rfl, (EReal.coe_sub _ _).symm, by rw [← EReal.coe_sub, Ideal.exp_coe]⟩
      · exact ⟨x0, rfl, by rw [sub_self, EReal.coe_zero], by rw [sub_self, Real.exp_zero, EReal.coe_one]⟩
  have hs : (0 : ℝ) < 1 + Real.exp (x1 - x0) + Real.exp (x2 - x0) := by positivity
  have hm : (0 : ℝ) < Real.exp (x0 - m) + Real.exp (x1 - m) + Real.exp (x2 - m) := by positivity
  have hcross : cross t x0 x1 x2 = ((Real.log (1 + Real.exp (x1 - x0) + Real.exp (x2 - x0)) - (y - x0) : ℝ) : EReal) := by
    rw [cross, hd, expSum_coe, Ideal.log_coe, if_neg (not_le.2 hs), ← EReal.coe_sub]
  have hprob : prob t x0 x1 x2 = ((Real.exp (-(Real.log (1 + Real.exp (x1 - x0) + Real.exp (x2 - x0)) - (y - x0))) : ℝ) : EReal) := by
    rw [prob, he, expSum_coe, Ideal.div_coe hs.ne', one_mul, ← EReal.coe_mul, prob_shift]
  have hlog : logProb (pick t x0 x1 x2) m (Ideal.exp ((x0 : EReal) - m) + Ideal.exp ((x1 : EReal) - m) + Ideal.exp ((x2 : EReal) - m))
      = ((-(Real.log (1 + Real.exp (x1 - x0) + Real.exp (x2 - x0)) - (y - x0)) : ℝ) : EReal) := by
    rw [logProb, hy, ← EReal.coe_sub, ← EReal.coe_sub, ← EReal.coe_sub, ← EReal.coe_sub, Ideal.exp_coe, Ideal.exp_coe, Ideal.exp_coe,
      ← EReal.coe_add, ← EReal.coe_add, Ideal.log_coe, if_neg (not_le.2 hm), ← EReal.coe_sub, log_shift]
  rw [focal, hlog, hcross, hprob, ofBits_two, neg_neg, ← EReal.coe_neg, neg_neg, Ideal.exp_coe, ← EReal.coe_one, ← EReal.coe_sub,
    Ideal.pow_coe_coe, ← EReal.coe_mul]
  congr 3
  exact ((Real.rpow_two _).trans (sq _)).symm

end Cert.FocalLoss
-- ==== Proof.Spec.lean ====
/-
  The masked mean that kernel and reference both compute, as plain sums over rows and columns.
-/
module

public import Idealize.ShloMosaic.Lib.Pointwise

@[expose] public section

noncomputable section

namespace Cert.Spec

open Idealize.ShloMosaic

/-- Whether row `r` of the targets has a positive entry at column `q`. -/
def HotAt (T : Fin 64 → Fin 131072 → BitVec 32) (r : Fin 64) (q : Nat) : Prop :=
  ∃ h : q < 131072, IntOp.cmpi .sgt (T r ⟨q, h⟩) 0#32 = 1#1

/-- Whether row `r` has a positive target at all. -/
def AnyHot (T : Fin 64 → Fin 131072 → BitVec 32) (r : Fin 64) : Prop := ∃ q, HotAt T r q

/-- Whether row `r` has a positive target at most a hundred columns away from column `l`. -/
def Near (T : Fin 64 → Fin 131072 → BitVec 32) (r : Fin 64) (l : Nat) : Prop := ∃ q, q ≤ l + 100 ∧ l ≤ q + 100 ∧ HotAt T r q

open Classical in
/-- One inside the mask and zero outside: rows with no positive target lie inside whole. -/
def mark (T : Fin 64 → Fin 131072 → BitVec 32) (r : Fin 64) (l : Fin 131072) : EReal :=
  if AnyHot T r → Near T r l.val then 1 else 0

/-- The mean of the losses `f` over the mask of the targets `T`. -/
def mean (f : Fin 64 → Fin 131072 → EReal) (T : Fin 64 → Fin 131072 → BitVec 32) : EReal :=
  Ideal.div (∑ r, ∑ l, f r l * mark T r l) (∑ r, ∑ l, mark T r l)

end Cert.Spec
-- ==== Proof.BlockValue.lean ====
/-
  What one grid point computes of its blocks: the losses, the mask and the marks of its elements, and their sums along
  the columns of the block.
-/
module

public import proofs.«01_k».proof.Proof.Blocks
public import proofs.«01_k».proof.Proof.Dilate
public import proofs.«01_k».proof.Proof.Focal
public import proofs.«01_k».proof.Proof.Spec

@[expose] public section

set_option maxRecDepth 16384

noncomputable section

namespace Cert.Blocks

open Cert.KernelIdeal Cert.KernelIdeal.Gen Idealize.ShloMosaic Idealize.ShloMosaic.TcCoe Idealize.SL.Sem
open Cert.Spec Cert.Dilate

/-! ## The element-wise formulas, on any blocks -/

theorem focal_of (x0 x1 x2 : FVec Ideal S1x8x65536 .f32) (t : IVec S8x65536 32) (a0 a1 a2 : EReal) (a : Fin 8) (b : Fin 65536) :
    k0_pay22 (F := Ideal) (k0_pay19 x0 x1 x2 t) (k0_pay20 x0 x1 x2 t) (k0_pay21 (F := Ideal) t a0 a1 a2)
      (FloatOps.ofBits FTy.f32 1065353216#32) (ix2 a b)
      = FocalLoss.focal (t (ix2 a b)) (x0 (ix3 0 a b)) (x1 (ix3 0 a b)) (x2 (ix3 0 a b)) a0 a1 a2 := by
  unfold FocalLoss.focal FocalLoss.pick FocalLoss.prob FocalLoss.cross FocalLoss.expSum FocalLoss.pick
  unfold_payloads
  pointwise

theorem sum_masked (f : FVec Ideal S8x65536 .f32) (v : FVec Ideal S8x65792 .f32) (a : Fin 8) (b : Fin 128) :
    k0_pay3 (F := Ideal) f v 65760#32 (ix2 a b) = ∑ x, f (ix2 a x) * k0_pay1 (F := Ideal) v 65760#32 (ix2 a x) := by
  unfold k0_pay3 k0_pay2
  generalize k0_pay1 (F := Ideal) v 65760#32 = w
  pointwise

theorem sum_mask (v : FVec Ideal S8x65792 .f32) (a : Fin 8) (b : Fin 128) :
    k0_pay4 (F := Ideal) v 65760#32 (ix2 a b) = ∑ x, k0_pay1 (F := Ideal) v 65760#32 (ix2 a x) := by
  unfold k0_pay4 k0_pay2
  generalize k0_pay1 (F := Ideal) v 65760#32 = w
  pointwise

theorem sum_all (f : FVec Ideal S8x65536 .f32) (a : Fin 8) (b : Fin 128) :
    k0_pay5 (F := Ideal) f (ix2 a b) = ∑ x, f (ix2 a x) := by
  unfold k0_pay5 k0_pay2
  pointwise

theorem sum_marks (f : FVec Ideal S8x65536 .f32) (a : Fin 8) (b : Fin 128) :
    k0_pay6 (F := Ideal) f (ix2 a b) = ∑ x, f (ix2 a x) := by
  unfold k0_pay6 k0_pay2
  pointwise

/-! ## The blocks of a grid point -/

variable (m : (ℓ : Loc nD τ sig) → Buf (Elt Ideal) ℓ) (c : Dev nD)

/-- The focal loss of the element at row `r` and column `l`. -/
def loss (r : Fin 64) (l : Fin 131072) : EReal :=
  FocalLoss.focal (targets m c (ix2 r l)) (logits m c (ix3 r l 0)) (logits m c (ix3 r l 1)) (logits m c (ix3 r l 2))
    (weights m c (ix1 0)) (weights m c (ix1 1)) (weights m c (ix1 2))

/-- The targets by row and column. -/
def classes (r : Fin 64) (l : Fin 131072) : BitVec 32 := targets m c (ix2 r l)

/-- One where the element lies near a positive target of its row. -/
def near (r : Fin 64) (l : Fin 131072) : EReal := ind (Near (classes m c) r l.val)

/-- One where the element's target is positive. -/
def hot (r : Fin 64) (l : Fin 131072) : EReal := ind (HotAt (classes m c) r l.val)

theorem one_pos : 0 < S1.numel := by decide

/-- The loss of a block, as the kernel computes it from its staged blocks. -/
def lossBlock (t : Fin cfg0.N) : FVec Ideal S8x65536 .f32 :=
  k0_pay22 (F := Ideal)
    (k0_pay19 (View.ld (iblk m c 1 t) (Rect.unit ![0, 0, 0] ![1, 8, 65536] inb_S3x8x65536_S1x8x65536_0_0_0))
      (View.ld (iblk m c 1 t) (Rect.unit ![1, 0, 0] ![1, 8, 65536] inb_S3x8x65536_S1x8x65536_1_0_0))
      (View.ld (iblk m c 1 t) (Rect.unit ![2, 0, 0] ![1, 8, 65536] inb_S3x8x65536_S1x8x65536_2_0_0)) (iblk m c 2 t))
    (k0_pay20 (View.ld (iblk m c 1 t) (Rect.unit ![0, 0, 0] ![1, 8, 65536] inb_S3x8x65536_S1x8x65536_0_0_0))
      (View.ld (iblk m c 1 t) (Rect.unit ![1, 0, 0] ![1, 8, 65536] inb_S3x8x65536_S1x8x65536_1_0_0))
      (View.ld (iblk m c 1 t) (Rect.unit ![2, 0, 0] ![1, 8, 65536] inb_S3x8x65536_S1x8x65536_2_0_0)) (iblk m c 2 t))
    (k0_pay21 (F := Ideal) (iblk m c 2 t) (View.ld (iblk m c 0 t) (Rect.unit ![0] ![1] inb_S3_S1_0) (Shape.Idx.first one_pos))
      (View.ld (iblk m c 0 t) (Rect.unit ![1] ![1] inb_S3_S1_1) (Shape.Idx.first one_pos))
      (View.ld (iblk m c 0 t) (Rect.unit ![2] ![1] inb_S3_S1_2) (Shape.Idx.first one_pos)))
    (FloatOps.ofBits FTy.f32 1065353216#32)

/-- The marks of a block between its halos, part of the way through the kernel's widening. -/
def earlyMask (t : Fin cfg0.N) : FVec Ideal S8x65792 .f32 :=
  k0_pay24 (F := Ideal) (BitVec.ofNat 32 ↑(grid0.coords t 1)) (iblk m c 2 t) (iblk m c 3 t) (iblk m c 4 t)

theorem logit_ld (t : Fin cfg0.N) (k : Fin 3) (h) (a : Fin 8) (b : Fin 65536) :
    (View.ld (iblk m c 1 t : FVec Ideal S3x8x65536 .f32) (Rect.unit ![k.val, 0, 0] ![1, 8, 65536] h) : FVec Ideal S1x8x65536 .f32) (ix3 0 a b)
      = logits m c (ix3 (row t a) (col t b) k) := by
  rw [← logits_at]
  refine congrArg (iblk m c 1 t) ?_
  funext d
  match d with
  | 0 => exact Fin.ext (by show k.val + 1 * 0 = k.val; omega)
  | 1 => exact Fin.ext (by show 0 + 1 * a.val = a.val; omega)
  | 2 => exact Fin.ext (by show 0 + 1 * b.val = b.val; omega)

theorem weight_ld (t : Fin cfg0.N) (k : Fin 3) (h) (h') :
    View.ld (iblk m c 0 t : FVec Ideal S3 .f32) (Rect.unit ![k.val] ![1] h) (Shape.Idx.first h') = weights m c (ix1 k) := by
  rw [← weights_at m c t]
  refine congrArg (iblk m c 0 t) ?_
  funext d
  match d with
  | 0 => exact Fin.ext (by show k.val + 1 * 0 = k.val; omega)

theorem focal_congr {t t' : BitVec 32} {x0 x1 x2 a0 a1 a2 y0 y1 y2 b0 b1 b2 : EReal} (ht : t = t') (h0 : x0 = y0) (h1 : x1 = y1)
    (h2 : x2 = y2) (g0 : a0 = b0) (g1 : a1 = b1) (g2 : a2 = b2) :
    FocalLoss.focal t x0 x1 x2 a0 a1 a2 = FocalLoss.focal t' y0 y1 y2 b0 b1 b2 := by
  subst ht h0 h1 h2 g0 g1 g2
  rfl

theorem lossBlock_at (t : Fin cfg0.N) (a : Fin 8) (b : Fin 65536) : lossBlock m c t (ix2 a b) = loss m c (row t a) (col t b) :=
  (focal_of _ _ _ _ _ _ _ a b).trans
    (focal_congr (targets_at m c t a b) (logit_ld m c t 0 inb_S3x8x65536_S1x8x65536_0_0_0 a b)
      (logit_ld m c t 1 inb_S3x8x65536_S1x8x65536_1_0_0 a b) (logit_ld m c t 2 inb_S3x8x65536_S1x8x65536_2_0_0 a b)
      (weight_ld m c t 0 inb_S3_S1_0 one_pos) (weight_ld m c t 1 inb_S3_S1_1 one_pos) (weight_ld m c t 2 inb_S3_S1_2 one_pos))

theorem hot_iff (r : Fin 64) (l : Fin 131072) :
    IntOp.cmpi .sgt (targets m c (ix2 r l)) 0#32 = 1#1 ↔ HotAt (classes m c) r l.val :=
  ⟨fun h => ⟨l.isLt, h⟩, fun ⟨_, h⟩ => h⟩

theorem marks_of_block (t : Fin cfg0.N) (a : Fin 8) (b : Fin 65536) :
    k0_pay23 (F := Ideal) (iblk m c 2 t) (ix2 a b) = hot m c (row t a) (col t b) := by
  rw [marks_at, targets_at]
  exact ind_congr (hot_iff m c _ _)

/-- Which columns of a block between its halos hold a positive target. -/
def Positive (t : Fin cfg0.N) (a : Fin 8) (q : Nat) : Prop :=
  128 ≤ 65536 * (t.val % 2) + q ∧ HotAt (classes m c) (row t a) (65536 * (t.val % 2) + q - 128)

theorem second_bits : IntOp.cmpi .sgt (BitVec.ofNat 32 0) 0#32 ≠ 1#1 ∧ IntOp.cmpi .sgt (BitVec.ofNat 32 1) 0#32 = 1#1
    ∧ IntOp.cmpi .slt (BitVec.ofNat 32 0) 1#32 = 1#1 ∧ IntOp.cmpi .slt (BitVec.ofNat 32 1) 1#32 ≠ 1#1 := by
  decide

theorem maskBlock_at (t : Fin cfg0.N) (a : Fin 8) (b : Fin 65536) :
    k0_pay1 (F := Ideal) (earlyMask m c t) 65760#32 (ix2 a b) = near m c (row t a) (col t b) := by
  obtain ⟨n0, y1, y0, n1⟩ := second_bits
  have hj : t.val % 2 = 0 ∨ t.val % 2 = 1 := by omega
  refine (mask_at (Positive m c t) _ _ _ _ ?_ ?_ ?_ a b).trans (ind_congr ?_)
  · intro a b
    rw [before_at, hot_iff, (idx t).2.2.2.2.2.2.2.2.2]
    dsimp only
    unfold Positive
    rcases hj with h | h
    · rw [h]
      exact ⟨fun x => absurd x.2 n0, fun x => absurd x.1 (by have := b.isLt; omega)⟩
    · rw [h]
      have e : 65536 * 1 + b.val - 128 = 1 * 511 * 128 + b.val := by omega
      rw [e]
      exact ⟨fun x => ⟨by omega, x.1⟩, fun x => ⟨x.2, y1⟩⟩
  · intro a b
    rw [targets_at, hot_iff]
    unfold Positive
    have e : 65536 * (t.val % 2) + (b.val + 128) - 128 = (col t b).val := by show _ = 65536 * (t.val % 2) + b.val; omega
    rw [e]
    exact ⟨fun x => ⟨by omega, x⟩, fun x => x.2⟩
  · intro a b
    rw [after_at, hot_iff, (idx t).2.2.2.2.2.2.2.2.2]
    dsimp only
    unfold Positive
    rcases hj with h | h
    · rw [h]
      have e : 65536 * 0 + (b.val + 65664) - 128 = (512 + 0 * 511) * 128 + b.val := by omega
      rw [e]
      exact ⟨fun x => ⟨by omega, x.1⟩, fun x => ⟨x.2, y0⟩⟩
    · rw [h]
      exact ⟨fun x => absurd x.2 n1, fun x => absurd x.2.1 (by omega)⟩
  · have hc : (col t b).val = 65536 * (t.val % 2) + b.val := rfl
    rw [hc]
    constructor
    · rintro ⟨q, h1, h2, h3, h4⟩
      exact ⟨_, by omega, by omega, h4⟩
    · rintro ⟨p, h1, h2, h3⟩
      refine ⟨p + 128 - 65536 * (t.val % 2), by omega, by omega, by omega, ?_⟩
      have e : 65536 * (t.val % 2) + (p + 128 - 65536 * (t.val % 2)) - 128 = p := by omega
      rw [e]
      exact h3

/-! ## The sums a grid point leaves -/

/-- The sum of `g` along the columns that point `t` sees of its row `a`. -/
def part (t : Fin cfg0.N) (a : Fin 8) (g : Fin 64 → Fin 131072 → EReal) : EReal := ∑ x, g (row t a) (col t x)

theorem part_masked (t : Fin cfg0.N) (a : Fin 8) (b : Fin 128) :
    k0_pay3 (F := Ideal) (lossBlock m c t) (earlyMask m c t) 65760#32 (ix2 a b) = part t a fun r l => loss m c r l * near m c r l := by
  rw [sum_masked]
  exact Finset.sum_congr rfl fun x _ => by rw [lossBlock_at, maskBlock_at]

theorem part_mask (t : Fin cfg0.N) (a : Fin 8) (b : Fin 128) :
    k0_pay4 (F := Ideal) (earlyMask m c t) 65760#32 (ix2 a b) = part t a (near m c) := by
  rw [sum_mask]
  exact Finset.sum_congr rfl fun x _ => maskBlock_at m c t a x

theorem part_all (t : Fin cfg0.N) (a : Fin 8) (b : Fin 128) :
    k0_pay5 (F := Ideal) (lossBlock m c t) (ix2 a b) = part t a (loss m c) := by
  rw [sum_all]
  exact Finset.sum_congr rfl fun x _ => lossBlock_at m c t a x

theorem part_marks (t : Fin cfg0.N) (a : Fin 8) (b : Fin 128) :
    k0_pay6 (F := Ideal) (k0_pay23 (F := Ideal) (iblk m c 2 t)) (ix2 a b) = part t a (hot m c) := by
  rw [sum_marks]
  exact Finset.sum_congr rfl fun x _ => marks_of_block m c t a x

end Cert.Blocks
-- ==== Proof.Arrays.lean ====
/-
  What the four arrays hold after the grid has run: in every column of a row, a sum along that row.
-/
module

public import proofs.«01_k».proof.Proof.BlockValue

@[expose] public section

set_option maxRecDepth 16384

noncomputable section

namespace Cert.Blocks

open Cert.KernelIdeal Cert.KernelIdeal.Gen Idealize.ShloMosaic Idealize.ShloMosaic.TcCoe Idealize.SL.Sem
open Cert.Spec Cert.Dilate

variable (m : (ℓ : Loc nD τ sig) → Buf (Elt Ideal) ℓ) (c : Dev nD)

/-- What is added at row `r` and column `l` in the sum over the mask. -/
def kept (r : Fin 64) (l : Fin 131072) : EReal := loss m c r l * near m c r l

/-! ## After the first column block of a row block -/

section First
variable (t : Fin cfg0.N) (h0 : t.val % 2 = 0) (a : Fin 8) (b : Fin 128)
include h0

theorem first_5 : (outsAt0 m c t.val t.isLt).1 (ix2 a b) = part t a (kept m c) := by
  rw [outsAt0_A m c t h0 (by omega)]
  frame_out
  exact part_masked m c t a b

theorem first_6 : (outsAt0 m c t.val t.isLt).2.1 (ix2 a b) = part t a (near m c) := by
  rw [outsAt0_A m c t h0 (by omega)]
  frame_out
  exact part_mask m c t a b

theorem first_7 : (outsAt0 m c t.val t.isLt).2.2.1 (ix2 a b) = part t a (loss m c) := by
  rw [outsAt0_A m c t h0 (by omega)]
  frame_out
  exact part_all m c t a b

theorem first_8 : (outsAt0 m c t.val t.isLt).2.2.2 (ix2 a b) = part t a (hot m c) := by
  rw [outsAt0_A m c t h0 (by omega)]
  frame_out
  exact part_marks m c t a b

end First

/-! ## After the second -/

theorem add_5 (f : FVec Ideal S8x65536 .f32) (v : FVec Ideal S8x65792 .f32) (p : FVec Ideal S8x128 .f32) (a : Fin 8) (b : Fin 128) :
    k0_pay7 (F := Ideal) f v 65760#32 p (ix2 a b) = p (ix2 a b) + k0_pay3 (F := Ideal) f v 65760#32 (ix2 a b) := by
  unfold k0_pay7
  generalize k0_pay3 (F := Ideal) f v 65760#32 = w
  pointwise

theorem add_6 (v : FVec Ideal S8x65792 .f32) (p : FVec Ideal S8x128 .f32) (a : Fin 8) (b : Fin 128) :
    k0_pay8 (F := Ideal) v 65760#32 p (ix2 a b) = p (ix2 a b) + k0_pay4 (F := Ideal) v 65760#32 (ix2 a b) := by
  unfold k0_pay8
  generalize k0_pay4 (F := Ideal) v 65760#32 = w
  pointwise

theorem add_7 (f : FVec Ideal S8x65536 .f32) (p : FVec Ideal S8x128 .f32) (a : Fin 8) (b : Fin 128) :
    k0_pay9 (F := Ideal) f p (ix2 a b) = p (ix2 a b) + k0_pay5 (F := Ideal) f (ix2 a b) := by
  unfold k0_pay9
  generalize k0_pay5 (F := Ideal) f = w
  pointwise

theorem add_8 (f : FVec Ideal S8x65536 .f32) (p : FVec Ideal S8x128 .f32) (a : Fin 8) (b : Fin 128) :
    k0_pay10 (F := Ideal) f p (ix2 a b) = p (ix2 a b) + k0_pay6 (F := Ideal) f (ix2 a b) := by
  unfold k0_pay10
  generalize k0_pay6 (F := Ideal) f = w
  pointwise

/-- The sum along a whole row is the sums along its two halves. -/
theorem sum_halves (f : Fin 131072 → EReal) :
    (∑ x : Fin 65536, f ⟨x.val, by omega⟩) + (∑ x : Fin 65536, f ⟨65536 + x.val, by omega⟩) = ∑ l, f l :=
  (Fin.sum_univ_add (a := 65536) (b := 65536) f).symm

section Second
variable (t : Fin cfg0.N) (h1 : t.val % 2 = 1) (a : Fin 8) (b : Fin 128)

/-- The point before. -/
def prev (t : Fin cfg0.N) : Fin cfg0.N := ⟨t.val - 1, lt_of_le_of_lt (Nat.sub_le _ _) t.isLt⟩

include h1

theorem prev_even : (prev t).val % 2 = 0 := by show (t.val - 1) % 2 = 0; omega

theorem parts (g : Fin 64 → Fin 131072 → EReal) : part (prev t) a g + part t a g = ∑ l, g (row t a) l := by
  have e0 : (prev t).val % 2 = 0 := prev_even t h1
  have hr : row (prev t) a = row t a := Fin.ext (by show 8 * ((t.val - 1) / 2) + a.val = 8 * (t.val / 2) + a.val; omega)
  rw [← sum_halves]
  unfold part
  rw [hr]
  refine congrArg₂ (· + ·) (Finset.sum_congr rfl fun x _ => ?_) (Finset.sum_congr rfl fun x _ => ?_)
  · exact congrArg (g _) (Fin.ext (by show 65536 * ((prev t).val % 2) + x.val = x.val; omega))
  · exact congrArg (g _) (Fin.ext (by show 65536 * (t.val % 2) + x.val = 65536 + x.val; omega))

theorem second_5 : (outsAt0 m c t.val t.isLt).1 (ix2 a b) = ∑ l, kept m c (row t a) l := by
  rw [← parts t h1, ← first_5 m c (prev t) (prev_even t h1) a b, ← show _ = part t a (kept m c) from part_masked m c t a b, ← add_5,
    outsAt0_B m c t (by omega) h1]
  frame_out
  rfl

theorem second_6 : (outsAt0 m c t.val t.isLt).2.1 (ix2 a b) = ∑ l, near m c (row t a) l := by
  rw [← parts t h1, ← first_6 m c (prev t) (prev_even t h1) a b, ← part_mask m c t a b, ← add_6,
    outsAt0_B m c t (by omega) h1]
  frame_out
  rfl

theorem second_7 : (outsAt0 m c t.val t.isLt).2.2.1 (ix2 a b) = ∑ l, loss m c (row t a) l := by
  rw [← parts t h1, ← first_7 m c (prev t) (prev_even t h1) a b, ← part_all m c t a b, ← add_7,
    outsAt0_B m c t (by omega) h1]
  frame_out
  rfl

theorem second_8 : (outsAt0 m c t.val t.isLt).2.2.2 (ix2 a b) = ∑ l, hot m c (row t a) l := by
  rw [← parts t h1, ← first_8 m c (prev t) (prev_even t h1) a b, ← part_marks m c t a b, ← add_8,
    outsAt0_B m c t (by omega) h1]
  frame_out
  rfl

end Second

/-! ## The arrays -/

/-- The array that holds `g r` in every column of its row `r`. -/
def spread (g : Fin 64 → EReal) : FVec Ideal S64x128 .f32 := fun i => g (i 0)

theorem flush_odd : ∀ t : Fin grid0.N, (win0_5.flush t = true → t.val % 2 = 1) ∧ (win0_6.flush t = true → t.val % 2 = 1)
    ∧ (win0_7.flush t = true → t.val % 2 = 1) ∧ (win0_8.flush t = true → t.val % 2 = 1) := by
  decide +kernel

theorem arr_5 : (dats m 0 c).arrAt 5 cfg0.N = spread fun r => ∑ l, kept m c r l := by
  refine (dats m 0 c).arrAt_eq_of_covers 5 _ (by decide +kernel) fun t hf y => ?_
  have h1 := (flush_odd t).1 hf
  have hi : win0_5.index t 0 = t.val / 2 := congrFun (idx t).2.2.2.2.2.1 0
  blk_simp
  rw [after0_5]
  idx_vars y
  refine (second_5 m c t h1 y0 y1).trans (congrArg (fun r => ∑ l, kept m c r l) (Fin.ext ?_))
  show 8 * (t.val / 2) + y0.val = win0_5.index t 0 * 8 + 1 * y0.val
  omega

theorem arr_6 : (dats m 0 c).arrAt 6 cfg0.N = spread fun r => ∑ l, near m c r l := by
  refine (dats m 0 c).arrAt_eq_of_covers 6 _ (by decide +kernel) fun t hf y => ?_
  have h1 := (flush_odd t).2.1 hf
  have hi : win0_6.index t 0 = t.val / 2 := congrFun (idx t).2.2.2.2.2.2.1 0
  blk_simp
  rw [after0_6]
  idx_vars y
  refine (second_6 m c t h1 y0 y1).trans (congrArg (fun r => ∑ l, near m c r l) (Fin.ext ?_))
  show 8 * (t.val / 2) + y0.val = win0_6.index t 0 * 8 + 1 * y0.val
  omega

theorem arr_7 : (dats m 0 c).arrAt 7 cfg0.N = spread fun r => ∑ l, loss m c r l := by
  refine (dats m 0 c).arrAt_eq_of_covers 7 _ (by decide +kernel) fun t hf y => ?_
  have h1 := (flush_odd t).2.2.1 hf
  have hi : win0_7.index t 0 = t.val / 2 := congrFun (idx t).2.2.2.2.2.2.2.1 0
  blk_simp
  rw [after0_7]
  idx_vars y
  refine (second_7 m c t h1 y0 y1).trans (congrArg (fun r => ∑ l, loss m c r l) (Fin.ext ?_))
  show 8 * (t.val / 2) + y0.val = win0_7.index t 0 * 8 + 1 * y0.val
  omega

theorem arr_8 : (dats m 0 c).arrAt 8 cfg0.N = spread fun r => ∑ l, hot m c r l := by
  refine (dats m 0 c).arrAt_eq_of_covers 8 _ (by decide +kernel) fun t hf y => ?_
  have h1 := (flush_odd t).2.2.2 hf
  have hi : win0_8.index t 0 = t.val / 2 := congrFun (idx t).2.2.2.2.2.2.2.2.1 0
  blk_simp
  rw [after0_8]
  idx_vars y
  refine (second_8 m c t h1 y0 y1).trans (congrArg (fun r => ∑ l, hot m c r l) (Fin.ext ?_))
  show 8 * (t.val / 2) + y0.val = win0_8.index t 0 * 8 + 1 * y0.val
  omega

end Cert.Blocks
-- ==== Proof.Tail.lean ====
/-
  The operations after the grid, read over the four arrays it leaves.
-/
module

public import proofs.«01_k».proof.Proof.Arrays
public import Idealize.ShloMosaic.Lib.StableHlo.ReadAt

@[expose] public section

set_option maxRecDepth 16384

noncomputable section

namespace Cert.Tail

open Cert.KernelIdeal Cert.KernelIdeal.Gen Idealize.ShloMosaic Idealize.ShloMosaic.TcCoe Idealize.SL.Sem

open Cert.Spec Cert.Dilate Cert.Blocks

/-- The result, the four arrays given. -/
theorem tail_of (σ : Valuation τ sig (Elt Ideal)) (g5 g6 g7 g8 : Fin 64 → EReal)
    (h5 : σ (Proc.devRef .tc main_call0_v1_0) = spread g5) (h6 : σ (Proc.devRef .tc main_call0_v1_1) = spread g6)
    (h7 : σ (Proc.devRef .tc main_call0_v1_2) = spread g7) (h8 : σ (Proc.devRef .tc main_call0_v1_3) = spread g8)
    (j : Shape.Idx S_) (v : EReal)
    (hv : Ideal.div (∑ r, if 0 < g8 r then g5 r else g7 r) (∑ r, if 0 < g8 r then g6 r else Ideal.ofBits .f32 0x48000000#32) = v) :
    (StableHlo.after (hostOps1 (F := Ideal)) σ (Proc.devRef .tc main_v0)) j = v := by
  after_reads_at
  rw [h5, h6, h7, h8]
  exact hv

/-! ## A row's share of the result -/

section Row
variable (f : Fin 131072 → EReal) (T : Fin 64 → Fin 131072 → BitVec 32) (r : Fin 64)

theorem ofBits_columns : Ideal.ofBits .f32 0x48000000#32 = ((131072 : ℝ) : EReal) := by
  simp [Ideal.ofBits, Ideal.ieee, -EReal.coe_mul]; norm_num

theorem ind_nonneg (p : Prop) : 0 ≤ ind p := by
  unfold ind
  split
  · exact zero_le_one
  · exact le_refl _

/-- A row's count of positive targets is positive exactly when it has one. -/
theorem count_pos : 0 < ∑ l : Fin 131072, ind (HotAt T r l.val) ↔ AnyHot T r := by
  constructor
  · intro h
    by_contra hn
    refine absurd h (not_lt_of_ge (le_of_eq (Finset.sum_eq_zero fun l _ => ?_)))
    exact if_neg fun hl => hn ⟨_, hl⟩
  · rintro ⟨q, hq, hp⟩
    have h1 : ind (HotAt T r q) ≤ ∑ l : Fin 131072, ind (HotAt T r l.val) :=
      Finset.single_le_sum (f := fun l : Fin 131072 => ind (HotAt T r l.val)) (fun l _ => ind_nonneg _) (Finset.mem_univ ⟨q, hq⟩)
    have h2 : ind (HotAt T r q) = 1 := if_pos ⟨hq, hp⟩
    exact lt_of_lt_of_le (h2 ▸ zero_lt_one) h1

theorem mark_near (h : AnyHot T r) (l : Fin 131072) : mark T r l = ind (Near T r l.val) := by
  unfold mark ind
  by_cases hl : Near T r l.val
  · rw [if_pos fun _ => hl, if_pos hl]
  · rw [if_neg fun k => hl (k h), if_neg hl]

theorem mark_whole (h : ¬AnyHot T r) (l : Fin 131072) : mark T r l = 1 := if_pos fun k => absurd k h

theorem kept_row : (if 0 < ∑ l : Fin 131072, ind (HotAt T r l.val) then ∑ l, f l * ind (Near T r l.val) else ∑ l, f l)
    = ∑ l, f l * mark T r l := by
  by_cases h : AnyHot T r
  · rw [if_pos ((count_pos T r).mpr h)]
    exact Finset.sum_congr rfl fun l _ => by rw [mark_near T r h]
  · rw [if_neg fun k => h ((count_pos T r).mp k)]
    exact Finset.sum_congr rfl fun l _ => by rw [mark_whole T r h, mul_one]

theorem count_row : (if 0 < ∑ l : Fin 131072, ind (HotAt T r l.val) then ∑ l : Fin 131072, ind (Near T r l.val)
    else Ideal.ofBits .f32 0x48000000#32) = ∑ l, mark T r l := by
  by_cases h : AnyHot T r
  · rw [if_pos ((count_pos T r).mpr h)]
    exact Finset.sum_congr rfl fun l _ => by rw [mark_near T r h]
  · rw [if_neg fun k => h ((count_pos T r).mp k), ofBits_columns, Finset.sum_congr rfl fun l _ => mark_whole T r h l,
      Finset.sum_const, Finset.card_univ, Fintype.card_fin, ← EReal.coe_one, ← EReal.coe_nsmul, nsmul_eq_mul, mul_one]
    norm_num

end Row

/-! ## The result -/

theorem array (m : (ℓ : Loc nD τ sig) → Buf (Elt Ideal) ℓ) (c : Dev nD) (w : Fin cfg0.W) :
    Pipeline.withArrays cfg0.spec c (V0 m c) (fun w => (dats m 0 c).arrAt w cfg0.N) (Proc.devRef .tc (Pipeline.arrRef cfg0.spec w))
      = (dats m 0 c).arrAt w cfg0.N :=
  (dats m 0 c).withArrays_arrAt sharedIn0 (V0 m c) (A_eq m c) w

theorem result (m : (ℓ : Loc nD τ sig) → Buf (Elt Ideal) ℓ) (c : Dev nD) :
    Pipeline.afterTail₀ cfgs (dats m) 0 (V0 m) [hostOps1] c main_v0 = fun _ => mean (loss m c) (classes m c) := by
  funext j
  refine tail_of (Pipeline.withArrays cfg0.spec c (V0 m c) fun w => (dats m 0 c).arrAt w cfg0.N)
    (fun r => ∑ l, kept m c r l) (fun r => ∑ l, near m c r l) (fun r => ∑ l, loss m c r l) (fun r => ∑ l, hot m c r l)
    ((array m c 5).trans (arr_5 m c)) ((array m c 6).trans (arr_6 m c)) ((array m c 7).trans (arr_7 m c))
    ((array m c 8).trans (arr_8 m c)) j _ ?_
  exact congrArg₂ Ideal.div (Finset.sum_congr rfl fun r _ => kept_row (loss m c r) (classes m c) r)
    (Finset.sum_congr rfl fun r _ => count_row (classes m c) r)

end Cert.Tail
-- ==== Proof.Counts.lean ====
/-
  The reference's window test on one row: running counts of the marked places, read at the two ends of the window, differ
  exactly when the window holds a marked place.
-/
module

public import Idealize.ShloMosaic.Lib.Routing.Ops

@[expose] public section

noncomputable section

namespace Cert.Counts

open Idealize.ShloMosaic Idealize.ShloMosaic.Routing Idealize.ShloMosaic.ValueIdx

/-- A running sum along the second axis of a matrix, read in row `r`, is the running sum of that row alone. -/
theorem reduceWindow_row {R N Nm1 : Nat} (x : IVec (shape2 R N) 32) (init : IVec shape0 32)
    (h : (shape2 R N).ReduceWindows (![1, N] : Fin 2 → Nat) ![1, 1] ![0, Nm1] ![0, 0] (shape2 R N))
    (h' : (shape2 1 N).ReduceWindows (![1, N] : Fin 2 → Nat) ![1, 1] ![0, Nm1] ![0, 0] (shape2 1 N))
    (hu : 0 < shape0.numel) (r : Fin R) (j : Fin N) :
    Host.reduceWindow IntOp.addi ![1, N] ![1, 1] ![0, Nm1] ![0, 0] x init h hu (ix2 r j)
      = Host.reduceWindow IntOp.addi ![1, N] ![1, 1] ![0, Nm1] ![0, 0] (fun i : (shape2 1 N).Idx => x (ix2 r (i 1))) init h' hu
          (ix2 (0 : Fin 1) j) := by
  unfold Host.reduceWindow
  dsimp only
  refine congrArg (fun g => List.foldl g _ _) (funext fun acc => funext fun n => congrArg (IntOp.addi acc) ?_)
  have hw : ((shape2 1 N).rowMajor.symm n 0).val = 0 := Nat.lt_one_iff.1 ((shape2 1 N).rowMajor.symm n 0).isLt
  have hr := r.isLt
  by_cases hin : Nm1 ≤ j.val * 1 + ((shape2 1 N).rowMajor.symm n 1).val ∧ j.val * 1 + ((shape2 1 N).rowMajor.symm n 1).val - Nm1 < N
  · have h1 : ∀ a : Fin 2, (![0, Nm1] : Fin 2 → Nat) a ≤ (ix2 r j a).val * (![1, 1] : Fin 2 → Nat) a + ((shape2 1 N).rowMajor.symm n a).val
        ∧ (ix2 r j a).val * (![1, 1] : Fin 2 → Nat) a + ((shape2 1 N).rowMajor.symm n a).val - (![0, Nm1] : Fin 2 → Nat) a < (shape2 R N).size a := fun a => by
      match a with
      | ⟨0, _⟩ =>
        show 0 ≤ r.val * 1 + ((shape2 1 N).rowMajor.symm n 0).val ∧ r.val * 1 + ((shape2 1 N).rowMajor.symm n 0).val - 0 < R
        omega
      | ⟨1, _⟩ => exact hin
    have h2 : ∀ a : Fin 2, (![0, Nm1] : Fin 2 → Nat) a ≤ (ix2 (0 : Fin 1) j a).val * (![1, 1] : Fin 2 → Nat) a + ((shape2 1 N).rowMajor.symm n a).val
        ∧ (ix2 (0 : Fin 1) j a).val * (![1, 1] : Fin 2 → Nat) a + ((shape2 1 N).rowMajor.symm n a).val - (![0, Nm1] : Fin 2 → Nat) a < (shape2 1 N).size a := fun a => by
      match a with
      | ⟨0, _⟩ =>
        show 0 ≤ 0 * 1 + ((shape2 1 N).rowMajor.symm n 0).val ∧ 0 * 1 + ((shape2 1 N).rowMajor.symm n 0).val - 0 < 1
        omega
      | ⟨1, _⟩ => exact hin
    refine (dif_pos h1).trans (Eq.symm ((dif_pos h2).trans (congrArg x (funext fun a => Fin.ext ?_))))
    match a with
    | ⟨0, _⟩ =>
      show r.val = r.val * 1 + ((shape2 1 N).rowMajor.symm n 0).val - 0
      omega
    | ⟨1, _⟩ => rfl
  · refine (dif_neg ?_).trans (Eq.symm (dif_neg ?_))
    · intro hh
      exact hin (hh 1)
    · intro hh
      exact hin (hh 1)

/-- The running sum along the second axis: where row `r` holds `f`, entry `(r, j)` holds `f 0 + … + f j`. -/
theorem cumsum_row {R N Nm1 : Nat} (hN : Nm1 + 1 = N) (x : IVec (shape2 R N) 32) (f : Nat → Nat) (r : Fin R)
    (hx : ∀ i : Fin N, x (ix2 r i) = BitVec.ofNat 32 (f i.val)) (init : IVec shape0 32) (hinit : init ix0 = 0#32)
    (h : (shape2 R N).ReduceWindows (![1, N] : Fin 2 → Nat) ![1, 1] ![0, Nm1] ![0, 0] (shape2 R N))
    (h' : (shape2 1 N).ReduceWindows (![1, N] : Fin 2 → Nat) ![1, 1] ![0, Nm1] ![0, 0] (shape2 1 N))
    (hu : 0 < shape0.numel) (j : Fin N) :
    Host.reduceWindow IntOp.addi ![1, N] ![1, 1] ![0, Nm1] ![0, 0] x init h hu (ix2 r j)
      = BitVec.ofNat 32 ((List.range (j.val + 1)).map f).sum :=
  (reduceWindow_row x init h h' hu r j).trans (cumsum2 hN _ f (fun i => hx i) init hinit h' hu j)

/-- How many of the first `n` places are marked. -/
def before (P : Nat → Prop) [DecidablePred P] (n : Nat) : Nat := ((List.range n).map fun i => if P i then 1 else 0).sum

theorem before_succ (P : Nat → Prop) [DecidablePred P] (n : Nat) : before P (n + 1) = before P n + if P n then 1 else 0 := by
  unfold before
  rw [List.range_succ, List.map_append, List.sum_append]
  simp

theorem before_le (P : Nat → Prop) [DecidablePred P] (n : Nat) : before P n ≤ n := by
  induction n with
  | zero => exact Nat.le_refl 0
  | succ n ih => rw [before_succ]; split <;> omega

/-- From `lo` to `hi` the count grows exactly when a place between them is marked. -/
theorem before_lt (P : Nat → Prop) [DecidablePred P] (lo d : Nat) :
    before P lo ≤ before P (lo + d) ∧ (before P lo < before P (lo + d) ↔ ∃ q, lo ≤ q ∧ q < lo + d ∧ P q) := by
  induction d with
  | zero => exact ⟨Nat.le_refl _, ⟨fun h => absurd h (lt_irrefl _), fun ⟨q, h1, h2, _⟩ => by omega⟩⟩
  | succ d ih =>
    obtain ⟨ih1, ih2⟩ := ih
    rw [← Nat.add_assoc, before_succ]
    refine ⟨by omega, ?_⟩
    by_cases hp : P (lo + d)
    · rw [if_pos hp]
      exact ⟨fun _ => ⟨lo + d, by omega, by omega, hp⟩, fun _ => by omega⟩
    · rw [if_neg hp, Nat.add_zero, ih2]
      constructor
      · rintro ⟨q, h1, h2, h3⟩; exact ⟨q, h1, by omega, h3⟩
      · rintro ⟨q, h1, h2, h3⟩
        refine ⟨q, h1, ?_, h3⟩
        rcases Nat.lt_or_ge q (lo + d) with h | h
        · exact h
        · exact absurd ((show q = lo + d by omega) ▸ h3) hp

/-- The difference of two words holding counts, tested for being positive. -/
theorem sgt_diff (a b : Nat) (hab : b ≤ a) (ha : a < 2 ^ 31) :
    IntOp.cmpi .sgt (IntOp.subi (BitVec.ofNat 32 a) (BitVec.ofNat 32 b)) 0#32 = BitVec.ofBool (decide (b < a)) := by
  have h : IntOp.subi (BitVec.ofNat 32 a) (BitVec.ofNat 32 b) = BitVec.ofNat 32 (a - b) := by
    apply BitVec.eq_of_toNat_eq
    show (BitVec.ofNat 32 a - BitVec.ofNat 32 b).toNat = _
    rw [BitVec.toNat_sub, BitVec.toNat_ofNat, BitVec.toNat_ofNat, BitVec.toNat_ofNat]
    omega
  rw [h]
  show BitVec.ofBool ((0#32).slt (BitVec.ofNat 32 (a - b))) = _
  congr 1
  rw [BitVec.slt, StableHlo.Predicate.toInt_ofNat_small 0 (by omega), StableHlo.Predicate.toInt_ofNat_small (a - b) (by omega)]
  exact decide_eq_decide.2 (by omega)

end Cert.Counts
-- ==== Proof.Reads.lean ====
/-
  The reference's three indexed reads, each at one place of its result: columns of a matrix taken by a list of column
  numbers, one entry per place along the last axis, and entries of a short vector.
-/
module

public import Idealize.ShloMosaic.Lib.ValueIdxCore

@[expose] public section

noncomputable section

namespace Cert.Reads

open Idealize.ShloMosaic Idealize.ShloMosaic.ValueIdx

private theorem zero_mem : (0 : Fin 3) ∈ ([0, 1] : List (Fin 3)) := by decide
private theorem one_mem : (1 : Fin 3) ∈ ([0, 1] : List (Fin 3)) := by decide
private theorem two_not_mem : (2 : Fin 3) ∉ ([0, 1] : List (Fin 3)) := by decide
private theorem zero_not_mem : (0 : Fin 2) ∉ ([1] : List (Fin 2)) := by decide
private theorem none_left : ∀ a : Fin 3, a ∉ ([2] : List (Fin 3)) → a ∉ ([0, 1] : List (Fin 3)) → False := by decide

/-- Columns of an `[R, M]` matrix taken by `n` column numbers. -/
abbrev columnDims (R M n : Nat)
    (wf : GatherDims.WF ⟨2, ![R, M]⟩ ⟨2, ![n, 1]⟩ ⟨2, ![R, n]⟩ [0] [1] [] [1] [] 1 ![R, 1]) :
    GatherDims ⟨2, ![R, M]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- Entry `(r, p)` of the taken columns is row `r`'s entry at column number `p`, where that number is a column. -/
theorem gather_column {α : Type} {R M n : Nat}
    (wf : GatherDims.WF ⟨2, ![R, M]⟩ ⟨2, ![n, 1]⟩ ⟨2, ![R, n]⟩ [0] [1] [] [1] [] 1 ![R, 1])
    (x : (⟨2, ![R, M]⟩ : Shape).Idx → α) (idx : IVec ⟨2, ![n, 1]⟩ 32) (r : Fin R) (p : Fin n) (k : Fin M)
    (hk : (idx (ix2 p (0 : Fin 1))).toInt = k.val) :
    Host.gather (columnDims R M n wf) x idx (ix2 r p) = x (ix2 r k) := by
  unfold Host.gather
  refine congrArg x (funext fun a => Fin.ext ?_)
  show (columnDims R M n wf).start (ix2 r p) idx a + (columnDims R M n wf).batchCoord (ix2 r p) a
      + (columnDims R M n wf).offCoord (ix2 r p) a = _
  rw [GatherDims.batchCoord_eq_zero _ _ _ List.not_mem_nil]
  match a with
  | ⟨0, _⟩ =>
    have hs : (columnDims R M n wf).start (ix2 r p) idx 0 = 0 := by
      unfold GatherDims.start
      exact dif_neg zero_not_mem
    have ho : (columnDims R M n wf).offCoord (ix2 r p) 0 = r.val := by
      unfold GatherDims.offCoord
      exact dif_pos ((GatherDims.mem_sKept _ _).2 ⟨zero_not_mem, List.not_mem_nil⟩)
    show (columnDims R M n wf).start (ix2 r p) idx 0 + 0 + (columnDims R M n wf).offCoord (ix2 r p) 0 = r.val
    rw [hs, ho, Nat.zero_add]
  | ⟨1, _⟩ =>
    have ho : (columnDims R M n wf).offCoord (ix2 r p) 1 = 0 :=
      GatherDims.offCoord_eq_zero _ _ _ fun h => ((GatherDims.mem_sKept _ _).1 h).1 (List.mem_singleton.2 rfl)
    have hsi : (columnDims R M n wf).siIdx (ix2 r p) ⟨List.idxOf (1 : Fin 2) (columnDims R M n wf).startIndexMap,
        List.idxOf_lt_length_iff.2 (List.mem_singleton.2 rfl)⟩ = ix2 p (0 : Fin 1) := by
      funext b
      match b with
      | ⟨0, _⟩ => rfl
      | ⟨1, _⟩ => rfl
    have hs : (columnDims R M n wf).start (ix2 r p) idx 1 = min (idx (ix2 p (0 : Fin 1))).toInt.toNat (M - 1) := by
      unfold GatherDims.start
      rw [dif_pos (show (1 : Fin 2) ∈ (columnDims R M n wf).startIndexMap from List.mem_singleton.2 rfl), hsi]
      rfl
    have hlt := k.isLt
    show (columnDims R M n wf).start (ix2 r p) idx 1 + 0 + (columnDims R M n wf).offCoord (ix2 r p) 1 = k.val
    rw [hs, ho, hk]
    omega

/-- One entry along the last axis of an `[R, N, C]` array for each place of the first two axes. -/
abbrev lastDims (R N C : Nat)
    (wf : GatherDims.WF ⟨3, ![R, N, C]⟩ ⟨4, ![R, N, 1, 1]⟩ ⟨3, ![R, N, 1]⟩ [] [2] [0, 1] [2] [0, 1] 3 ![1, 1, 1]) :
    GatherDims ⟨3, ![R, N, C]⟩ ⟨4, ![R, N, 1, 1]⟩ ⟨3, ![R, N, 1]⟩ where
  offsetDims := []
  collapsedSliceDims := [2]
  operandBatchingDims := [0, 1]
  startIndicesBatchingDims := [0, 1]
  startIndexMap := [2]
  indexVectorDim := 3
  sliceSizes := ![1, 1, 1]
  wf := wf

/-- Entry `(r, l)` of the taken entries is the array's entry `(r, l, k)`, where `k` is the number given for that place. -/
theorem gather_last {α : Type} {R N C : Nat}
    (wf : GatherDims.WF ⟨3, ![R, N, C]⟩ ⟨4, ![R, N, 1, 1]⟩ ⟨3, ![R, N, 1]⟩ [] [2] [0, 1] [2] [0, 1] 3 ![1, 1, 1])
    (x : (⟨3, ![R, N, C]⟩ : Shape).Idx → α) (idx : IVec ⟨4, ![R, N, 1, 1]⟩ 32) (r : Fin R) (l : Fin N) (k : Fin C)
    (i : (⟨4, ![R, N, 1, 1]⟩ : Shape).Idx) (hi : i = fun a => match a with | ⟨0, _⟩ => r | ⟨1, _⟩ => l | ⟨2, _⟩ => (0 : Fin 1) | ⟨3, _⟩ => (0 : Fin 1))
    (hk : (idx i).toInt = k.val) :
    Host.gather (lastDims R N C wf) x idx (ix3 r l (0 : Fin 1)) = x (ix3 r l k) := by
  unfold Host.gather
  refine congrArg x (funext fun a => Fin.ext ?_)
  show (lastDims R N C wf).start (ix3 r l (0 : Fin 1)) idx a + (lastDims R N C wf).batchCoord (ix3 r l (0 : Fin 1)) a
      + (lastDims R N C wf).offCoord (ix3 r l (0 : Fin 1)) a = _
  have ho : ∀ a : Fin 3, (lastDims R N C wf).offCoord (ix3 r l (0 : Fin 1)) a = 0 := fun a =>
    GatherDims.offCoord_eq_zero _ _ _ fun h => none_left a ((GatherDims.mem_sKept _ _).1 h).1 ((GatherDims.mem_sKept _ _).1 h).2
  rw [ho]
  match a with
  | ⟨0, _⟩ =>
    have hs := (lastDims R N C wf).start_batching (ix3 r l (0 : Fin 1)) idx 0 zero_mem
    show (lastDims R N C wf).start (ix3 r l (0 : Fin 1)) idx 0 + (lastDims R N C wf).batchCoord (ix3 r l (0 : Fin 1)) 0 + 0 = r.val
    rw [hs, Nat.zero_add, Nat.add_zero]
    unfold GatherDims.batchCoord
    exact dif_pos zero_mem
  | ⟨1, _⟩ =>
    have hs := (lastDims R N C wf).start_batching (ix3 r l (0 : Fin 1)) idx 1 one_mem
    show (lastDims R N C wf).start (ix3 r l (0 : Fin 1)) idx 1 + (lastDims R N C wf).batchCoord (ix3 r l (0 : Fin 1)) 1 + 0 = l.val
    rw [hs, Nat.zero_add, Nat.add_zero]
    unfold GatherDims.batchCoord
    exact dif_pos one_mem
  | ⟨2, _⟩ =>
    have hb := (lastDims R N C wf).batchCoord_eq_zero (ix3 r l (0 : Fin 1)) 2 two_not_mem
    have hsi : (lastDims R N C wf).siIdx (ix3 r l (0 : Fin 1)) ⟨List.idxOf (2 : Fin 3) (lastDims R N C wf).startIndexMap,
        List.idxOf_lt_length_iff.2 (List.mem_singleton.2 rfl)⟩ = i := by
      subst hi
      funext b
      match b with
      | ⟨0, _⟩ => rfl
      | ⟨1, _⟩ => rfl
      | ⟨2, _⟩ => rfl
      | ⟨3, _⟩ => rfl
    have hs : (lastDims R N C wf).start (ix3 r l (0 : Fin 1)) idx 2 = min (idx i).toInt.toNat (C - 1) := by
      unfold GatherDims.start
      rw [dif_pos (show (2 : Fin 3) ∈ (lastDims R N C wf).startIndexMap from List.mem_singleton.2 rfl), hsi]
      rfl
    have hlt := k.isLt
    show (lastDims R N C wf).start (ix3 r l (0 : Fin 1)) idx 2 + (lastDims R N C wf).batchCoord (ix3 r l (0 : Fin 1)) 2 + 0 = k.val
    rw [hs, hb, hk]
    omega

end Cert.Reads
-- ==== Proof.RefMask.lean ====
/-
  The reference's mask at one place: running counts of the positive targets, read at the two ends of the window.
-/
module

public import proofs.«01_k».proof.Proof.Gen.ReferenceIdeal.Run
public import proofs.«01_k».proof.Proof.Spec
public import proofs.«01_k».proof.Proof.Counts
public import proofs.«01_k».proof.Proof.Reads
public import Idealize.ShloMosaic.Lib.Pointwise.IndexBridge
public import Idealize.ShloMosaic.Lib.Tactic.WordOmega
public import Idealize.ShloMosaic.Lib.Routing.OpsOrder

@[expose] public section

set_option maxRecDepth 16384

noncomputable section

namespace Cert.RefMask

open Cert.ReferenceIdeal Cert.ReferenceIdeal.Gen Idealize.ShloMosaic Cert.Spec Cert.Counts

/-- The bits of the positive targets. -/
def hotBits (T : IVec S64x131072 32) : IVec S64x131072 1 :=
  cmpi .sgt T (broadcastInDim S64x131072 ![] bcast_S_S64x131072 (constantI S_ 32 0#32))

/-- The running counts of the positive targets along each row. -/
def running (T : IVec S64x131072 32) : IVec S64x131072 32 :=
  Host.reduceWindow IntOp.addi ![1, 131072] ![1, 1] ![0, 131071] ![0, 0] (extui 32 (hotBits T) natLt_1_32)
    (broadcastInDim S_ ![] bcast_S_S_ (constantI S_ 32 0#32)) reduceWindows_S64x131072_S64x131072_w1s1p0_0_w131072s1p131071_0 h_S_

/-- A column of zeros before the columns of `b`. -/
def zeroThen (b : IVec S64x131072 32) : IVec S64x131073 32 :=
  concatenate S64x131073 1 [⟨S64x1, broadcastInDim S64x1 ![] bcast_S_S64x1 (constantI S_ 32 0#32)⟩, ⟨S64x131072, b⟩]
    concatenates_S64x1_S64x131072_S64x131073_d1

/-- The ends of the windows, exclusive. -/
def ends : IVec S131072 32 :=
  minsi (addi (addi (iotaInDim S131072 32 0) (broadcastInDim S131072 ![] bcast_S_S131072 (constantI S_ 32 100#32)))
      (broadcastInDim S131072 ![] bcast_S_S131072 (constantI S_ 32 1#32)))
    (broadcastInDim S131072 ![] bcast_S_S131072 (constantI S_ 32 131072#32))

/-- The starts of the windows. -/
def starts : IVec S131072 32 :=
  maxsi (subi (iotaInDim S131072 32 0) (broadcastInDim S131072 ![] bcast_S_S131072 (constantI S_ 32 100#32)))
    (broadcastInDim S131072 ![] bcast_S_S131072 (constantI S_ 32 0#32))

/-- The columns of `b` at the places `w`, a negative place counted from the end. -/
def columnsAt (b : IVec S64x131073 32) (w : IVec S131072 32) : IVec S64x131072 32 :=
  Host.gather gather_S64x131073_S131072x1_S64x131072_0_1_n_n_1_1_641 b
    (broadcastInDim S131072x1 ![0] bcast_S131072_S131072x1_0
      (select (cmpi .slt w (broadcastInDim S131072 ![] bcast_S_S131072 (constantI S_ 32 0#32)))
        (addi w (broadcastInDim S131072 ![] bcast_S_S131072 (constantI S_ 32 131073#32))) w))

/-- The bits of the mask. -/
def maskBits (T : IVec S64x131072 32) : IVec S64x131072 1 :=
  select (broadcastInDim S64x131072 ![0, 1] bcast_S64x1_S64x131072_0_1 (broadcastInDim S64x1 ![0] bcast_S64_S64x1_0
      (Host.reduce IntOp.ori (hotBits T) (constantI S_ 1 0#1) reducesTo_S64x131072_S64_d1 h_S_)))
    (cmpi .sgt (subi (columnsAt (zeroThen (running T)) ends) (columnsAt (zeroThen (running T)) starts))
      (broadcastInDim S64x131072 ![] bcast_S_S64x131072 (constantI S_ 32 0#32)))
    (broadcastInDim S64x131072 ![] bcast_S_S64x131072 (constantI S_ 1 1#1))

/-- The targets by row and column. -/
def rows (T : IVec S64x131072 32) (r : Fin 64) (l : Fin 131072) : BitVec 32 := T (ix2 r l)

theorem hotBits_at (T : IVec S64x131072 32) (r : Fin 64) (l : Fin 131072) :
    hotBits T (ix2 r l) = IntOp.cmpi .sgt (rows T r l) 0#32 := by
  unfold hotBits rows
  pointwise

open Classical in
theorem running_at (T : IVec S64x131072 32) (r : Fin 64) (l : Fin 131072) :
    running T (ix2 r l) = BitVec.ofNat 32 (before (HotAt (rows T) r) (l.val + 1)) := by
  rw [ix2_eq_valueIdx]
  refine cumsum_row (Nm1 := 131071) rfl _ _ r (fun i => ?_) _ ?_ _ (by decide) _ l
  · show (hotBits T (ValueIdx.ix2 r i)).setWidth 32 = _
    rw [← ix2_eq_valueIdx, hotBits_at]
    by_cases h : HotAt (rows T) r i.val
    · rw [if_pos h]
      obtain ⟨h1, h2⟩ := h
      rw [show (⟨i.val, h1⟩ : Fin 131072) = i from rfl] at h2
      rw [h2]; rfl
    · rw [if_neg h]
      have h2 : IntOp.cmpi .sgt (rows T r i) 0#32 = 0#1 := by
        rcases BitVec.eq_zero_or_eq_one (IntOp.cmpi .sgt (rows T r i) 0#32) with h3 | h3
        · exact h3
        · exact absurd ⟨i.isLt, h3⟩ h
      rw [h2]; rfl
  · rfl

theorem zeroThen_at (b : IVec S64x131072 32) (r : Fin 64) (k : Fin 131073) :
    zeroThen b (ix2 r k) = if h : k.val < 1 then 0#32 else b (ix2 r ⟨k.val - 1, by omega⟩) := by
  unfold zeroThen
  pointwise

open Classical in
theorem counts_at (T : IVec S64x131072 32) (r : Fin 64) (k : Fin 131073) :
    zeroThen (running T) (ix2 r k) = BitVec.ofNat 32 (before (HotAt (rows T) r) k.val) := by
  rw [zeroThen_at]
  by_cases h : k.val < 1
  · rw [dif_pos h, show k.val = 0 by omega]; rfl
  · rw [dif_neg h, running_at]
    show BitVec.ofNat 32 (before _ (k.val - 1 + 1)) = _
    rw [show k.val - 1 + 1 = k.val by omega]

/-- A sum of words that hold small numbers. -/
theorem addi_ofNat (a b : Nat) : IntOp.addi (BitVec.ofNat 32 a) (BitVec.ofNat 32 b) = BitVec.ofNat 32 (a + b) :=
  (BitVec.ofNat_add a b).symm

theorem slt_ofNat (a b : Nat) (ha : a < 2 ^ 31) (hb : b < 2 ^ 31) :
    (BitVec.ofNat 32 a).slt (BitVec.ofNat 32 b) = decide (a < b) := by
  rw [BitVec.slt, StableHlo.Predicate.toInt_ofNat_small a ha, StableHlo.Predicate.toInt_ofNat_small b hb]
  exact decide_eq_decide.2 (by omega)

theorem ends_at (l : Fin 131072) : ends (ix1 l) = BitVec.ofNat 32 (min (l.val + 101) 131072) := by
  unfold ends
  pointwise
  have hl := l.isLt
  rw [addi_ofNat, addi_ofNat]
  unfold IntOp.minsi
  rw [slt_ofNat _ _ (by omega) (by omega)]
  by_cases h : l.val + 100 + 1 < 131072
  · rw [decide_eq_true h, if_pos rfl, min_eq_left (by omega)]
  · rw [decide_eq_false h, if_neg (by decide), min_eq_right (by omega)]

theorem starts_at (l : Fin 131072) : starts (ix1 l) = BitVec.ofNat 32 (l.val - 100) := by
  unfold starts
  pointwise
  have hl := l.isLt
  unfold IntOp.maxsi
  by_cases h : 100 ≤ l.val
  · have hs : IntOp.subi (BitVec.ofNat 32 l.val) 100#32 = BitVec.ofNat 32 (l.val - 100) := by
      apply BitVec.eq_of_toNat_eq
      show (BitVec.ofNat 32 l.val - BitVec.ofNat 32 100).toNat = _
      rw [BitVec.toNat_sub, BitVec.toNat_ofNat, BitVec.toNat_ofNat, BitVec.toNat_ofNat]
      omega
    rw [hs, show (0#32) = BitVec.ofNat 32 0 from rfl, slt_ofNat _ _ (by omega) (by omega)]
    by_cases h0 : 0 < l.val - 100
    · rw [decide_eq_true h0, if_pos rfl]
    · rw [decide_eq_false h0, if_neg (by decide), show l.val - 100 = 0 by omega]
  · have hs : (0#32).slt (IntOp.subi (BitVec.ofNat 32 l.val) 100#32) = false := by
      rw [BitVec.slt, decide_eq_false_iff_not, BitVec.toInt_eq_toNat_cond (IntOp.subi (BitVec.ofNat 32 l.val) 100#32)]
      have hn : (IntOp.subi (BitVec.ofNat 32 l.val) 100#32).toNat = 2 ^ 32 - 100 + l.val := by
        show (BitVec.ofNat 32 l.val - BitVec.ofNat 32 100).toNat = _
        rw [BitVec.toNat_sub, BitVec.toNat_ofNat, BitVec.toNat_ofNat]
        omega
      rw [hn, if_neg (by omega), show (0#32).toInt = 0 from rfl]
      omega
    rw [hs, if_neg (by decide), show l.val - 100 = 0 by omega]

theorem columnsAt_at (b : IVec S64x131073 32) (w : IVec S131072 32) (r : Fin 64) (l : Fin 131072) (k : Fin 131073)
    (hw : w (ix1 l) = BitVec.ofNat 32 k.val) : columnsAt b w (ix2 r l) = b (ix2 r k) := by
  unfold columnsAt
  rw [ix2_eq_valueIdx, ix2_eq_valueIdx]
  refine Reads.gather_column gather_S64x131073_S131072x1_S64x131072_0_1_n_n_1_1_641_wf b _ r l k ?_
  rw [← ix2_eq_valueIdx]
  pointwise
  have hk := k.isLt
  have hc : IntOp.cmpi .slt (w (ix1 l)) 0#32 = BitVec.ofBool (decide (k.val < 0)) := by
    rw [hw]
    exact congrArg BitVec.ofBool (slt_ofNat _ 0 (by omega) (by omega))
  rw [hc, decide_eq_false (by omega), Scalar.select_ofBool, if_neg (by decide), hw]
  exact StableHlo.Predicate.toInt_ofNat_small _ (by omega)

theorem anyBit (T : IVec S64x131072 32) (r : Fin 64) :
    Host.reduce IntOp.ori (hotBits T) (constantI S_ 1 0#1) reducesTo_S64x131072_S64_d1 h_S_ (ix1 r) = 1#1 ↔ AnyHot (rows T) r := by
  have h : Host.reduce IntOp.ori (hotBits T) (constantI S_ 1 0#1) reducesTo_S64x131072_S64_d1 h_S_ (ix1 r)
      = Finset.fold IntOp.ori (0#1) (fun l => hotBits T (ix2 r l)) Finset.univ := by
    generalize hotBits T = b
    pointwise
  rw [h, Routing.fold_ori]
  constructor
  · rintro ⟨l, _, hl⟩
    exact ⟨l.val, l.isLt, (hotBits_at T r l).symm.trans hl⟩
  · rintro ⟨q, hq, h⟩
    exact ⟨⟨q, hq⟩, Finset.mem_univ _, (hotBits_at T r ⟨q, hq⟩).trans h⟩

/-- The reference's mask, read as a number, is one inside the mask and zero outside. -/
theorem mask_at (T : IVec S64x131072 32) (r : Fin 64) (l : Fin 131072) :
    (uitofp .f32 (maskBits T) : FVec Ideal S64x131072 .f32) (ix2 r l) = mark (rows T) r l := by
  classical
  have hl := l.isLt
  have hstart : columnsAt (zeroThen (running T)) starts (ix2 r l) = BitVec.ofNat 32 (before (HotAt (rows T) r) (l.val - 100)) := by
    rw [columnsAt_at _ _ r l ⟨l.val - 100, by omega⟩ (starts_at l), counts_at]
  have he : min (l.val + 101) 131072 = l.val - 100 + (min (l.val + 101) 131072 - (l.val - 100)) := by omega
  have hend : columnsAt (zeroThen (running T)) ends (ix2 r l)
      = BitVec.ofNat 32 (before (HotAt (rows T) r) (l.val - 100 + (min (l.val + 101) 131072 - (l.val - 100)))) := by
    rw [columnsAt_at _ _ r l ⟨min (l.val + 101) 131072, by omega⟩ (ends_at l), counts_at]
    exact congrArg (fun n => BitVec.ofNat 32 (before (HotAt (rows T) r) n)) he
  obtain ⟨hle, hiff⟩ := before_lt (HotAt (rows T) r) (l.val - 100) (min (l.val + 101) 131072 - (l.val - 100))
  have hbound := before_le (HotAt (rows T) r) (l.val - 100 + (min (l.val + 101) 131072 - (l.val - 100)))
  have hnear : before (HotAt (rows T) r) (l.val - 100) < before (HotAt (rows T) r) (l.val - 100 + (min (l.val + 101) 131072 - (l.val - 100)))
      ↔ Near (rows T) r l.val := by
    rw [hiff]
    constructor
    · rintro ⟨q, h1, h2, h3⟩; exact ⟨q, by omega, by omega, h3⟩
    · rintro ⟨q, h1, h2, h3⟩
      have := h3.1
      exact ⟨q, by omega, by omega, h3⟩
  have hread : maskBits T (ix2 r l) = Scalar.select (Host.reduce IntOp.ori (hotBits T) (constantI S_ 1 0#1) reducesTo_S64x131072_S64_d1 h_S_ (ix1 r))
      (IntOp.cmpi .sgt (IntOp.subi (columnsAt (zeroThen (running T)) ends (ix2 r l)) (columnsAt (zeroThen (running T)) starts (ix2 r l))) 0#32) 1#1 := by
    unfold maskBits
    generalize columnsAt (zeroThen (running T)) ends = e
    generalize columnsAt (zeroThen (running T)) starts = s
    generalize Host.reduce IntOp.ori (hotBits T) (constantI S_ 1 0#1) reducesTo_S64x131072_S64_d1 h_S_ = a
    pointwise
  have hbit : maskBits T (ix2 r l) = BitVec.ofBool (decide (AnyHot (rows T) r → Near (rows T) r l.val)) := by
    rw [hread, hstart, hend, sgt_diff _ _ hle (by omega)]
    by_cases ha : AnyHot (rows T) r
    · rw [(anyBit T r).2 ha]
      exact congrArg BitVec.ofBool (decide_eq_decide.2 (hnear.trans ⟨fun h _ => h, fun h => h ha⟩))
    · rw [decide_eq_true (fun h => absurd h ha)]
      exact if_neg fun h => ha ((anyBit T r).1 h)
  rw [uitofp_apply, hbit]
  unfold mark
  by_cases h : AnyHot (rows T) r → Near (rows T) r l.val
  · rw [decide_eq_true h, if_pos h]
    show (((1 : ℕ) : ℝ) : EReal) = 1
    norm_num
  · rw [decide_eq_false h, if_neg h]
    show (((0 : ℕ) : ℝ) : EReal) = 0
    norm_num

end Cert.RefMask
-- ==== Proof.RefLoss.lean ====
/-
  The reference's loss of one element: the logarithm of the softmax through the largest logit, the target's own entry of it,
  and the weight of the target's class.
-/
module

public import proofs.«01_k».proof.Proof.Gen.ReferenceIdeal.Run
public import proofs.«01_k».proof.Proof.Focal
public import proofs.«01_k».proof.Proof.Reads
public import Idealize.ShloMosaic.Lib.Pointwise.IndexBridge
public import Idealize.ShloMosaic.Lib.StableHlo.Predicate

@[expose] public section

set_option maxRecDepth 16384

noncomputable section

namespace Cert.RefLoss

open Cert.ReferenceIdeal Cert.ReferenceIdeal.Gen Idealize.ShloMosaic Cert.FocalLoss

/-- The largest logit of every place. -/
def largest (X : FVec Ideal S64x131072x3 .f32) : FVec Ideal S64x131072 .f32 :=
  maximumf (broadcastInDim S64x131072 ![] bcast_S_S64x131072 (constant S_ .f32 0xFF800000#32))
    (Host.reduce FloatOps.maximumf X (constant S_ .f32 0xFF800000#32) reducesTo_S64x131072x3_S64x131072_d2 h_S_)

/-- One number per place, repeated along the classes. -/
def perClass (x : FVec Ideal S64x131072x1 .f32) : FVec Ideal S64x131072x3 .f32 :=
  broadcastInDim S64x131072x3 ![0, 1, 2] bcast_S64x131072x1_S64x131072x3_0_1_2 x

/-- One number per place, as a column. -/
def column (x : FVec Ideal S64x131072 .f32) : FVec Ideal S64x131072x1 .f32 :=
  broadcastInDim S64x131072x1 ![0, 1] bcast_S64x131072_S64x131072x1_0_1 x

/-- The differences of the logits to their largest. -/
def shifted (X : FVec Ideal S64x131072x3 .f32) : FVec Ideal S64x131072x3 .f32 := subf X (perClass (column (largest X)))

/-- The logarithm of the softmax. -/
def logSoftmax (X : FVec Ideal S64x131072x3 .f32) : FVec Ideal S64x131072x3 .f32 :=
  subf (shifted X) (perClass (Host.log (column (Host.reduceAdd (Host.exp (shifted X)) (constant S_ .f32 0x00000000#32)
    reducesTo_S64x131072x3_S64x131072_d2 h_S_))))

/-- The targets as a column, a negative one counted from the end of the classes. -/
def classes (T : IVec S64x131072 32) : IVec S64x131072x1 32 :=
  select (cmpi .slt (broadcastInDim S64x131072x1 ![0, 1] bcast_S64x131072_S64x131072x1_0_1 T)
      (broadcastInDim S64x131072x1 ![] bcast_S_S64x131072x1 (constantI S_ 32 0#32)))
    (addi (broadcastInDim S64x131072x1 ![0, 1] bcast_S64x131072_S64x131072x1_0_1 T)
      (broadcastInDim S64x131072x1 ![] bcast_S_S64x131072x1 (constantI S_ 32 3#32)))
    (broadcastInDim S64x131072x1 ![0, 1] bcast_S64x131072_S64x131072x1_0_1 T)

/-- The class numbers with the axis of a read. -/
def places (T : IVec S64x131072 32) : IVec S64x131072x1x1 32 := shapeCast _ (classes T) shapeCasts_S64x131072x1_S64x131072x1x1

/-- Whether a class number is a class. -/
def inRange (T : IVec S64x131072 32) : IVec S64x131072x1 1 :=
  Host.reduce IntOp.andi (andi (cmpi .sge (places T) (broadcastInDim S64x131072x1x1 ![] bcast_S_S64x131072x1x1 (constantI S_ 32 0#32)))
      (cmpi .sle (places T) (broadcastInDim S64x131072x1x1 ![0, 1, 2, 3] bcast_S1x1x1x1_S64x131072x1x1_0_1_2_3
        (broadcastInDim S1x1x1x1 ![3] bcast_S1_S1x1x1x1_3 (constantI S1 32 2#32)))))
    (constantI S_ 1 1#1) reducesTo_S64x131072x1x1_S64x131072x1_d3 h_S_

/-- The entries of `L` at the target's class. -/
def taken (L : FVec Ideal S64x131072x3 .f32) (T : IVec S64x131072 32) : FVec Ideal S64x131072 .f32 :=
  shapeCast _ (select (inRange T)
      (Host.gather gather_S64x131072x3_S64x131072x1x1_S64x131072x1_n_2_01_01_2_3_111 L (places T))
      (broadcastInDim S64x131072x1 ![] bcast_S_S64x131072x1 (constant S_ .f32 0x7FC00000#32)))
    shapeCasts_S64x131072x1_S64x131072

/-- The weights of the target's class. -/
def weights (A : FVec Ideal S3 .f32) (T : IVec S64x131072 32) : FVec Ideal S64x131072 .f32 :=
  Host.gather gather_S3_S64x131072x1_S64x131072_n_0_n_n_0_2_1 A
    (broadcastInDim S64x131072x1 ![0, 1] bcast_S64x131072_S64x131072x1_0_1
      (select (cmpi .slt T (broadcastInDim S64x131072 ![] bcast_S_S64x131072 (constantI S_ 32 0#32)))
        (addi T (broadcastInDim S64x131072 ![] bcast_S_S64x131072 (constantI S_ 32 3#32))) T))

/-- The losses. -/
def losses (X : FVec Ideal S64x131072x3 .f32) (T : IVec S64x131072 32) (A : FVec Ideal S3 .f32) : FVec Ideal S64x131072 .f32 :=
  mulf (mulf (weights A T)
      (Host.powf (subf (broadcastInDim S64x131072 ![] bcast_S_S64x131072 (constant S_ .f32 0x3F800000#32))
          (Host.exp (Host.negf (Host.negf (taken (logSoftmax X) T)))))
        (broadcastInDim S64x131072 ![] bcast_S_S64x131072 (constant S_ .f32 0x40000000#32))))
    (Host.negf (taken (logSoftmax X) T))

/-- The greater of `−∞` and a number. -/
theorem floor_at (Y : FVec Ideal S64x131072 .f32) (r : Fin 64) (l : Fin 131072) :
    (maximumf (broadcastInDim S64x131072 ![] bcast_S_S64x131072 (constant S_ .f32 0xFF800000#32)) Y) (ix2 r l)
      = max (Ideal.ofBits .f32 0xFF800000#32) (Y (ix2 r l)) := by
  pointwise

theorem rowMax_at (X : FVec Ideal S64x131072x3 .f32) (r : Fin 64) (l : Fin 131072) :
    (Host.reduce FloatOps.maximumf X (constant S_ .f32 0xFF800000#32) reducesTo_S64x131072x3_S64x131072_d2 h_S_) (ix2 r l)
      = Finset.fold max (Ideal.ofBits .f32 0xFF800000#32) (fun k => X (ix3 r l k)) Finset.univ := by
  pointwise

theorem largest_at (X : FVec Ideal S64x131072x3 .f32) (r : Fin 64) (l : Fin 131072) : largest X (ix2 r l)
    = max (Ideal.ofBits .f32 0xFF800000#32) (Finset.fold max (Ideal.ofBits .f32 0xFF800000#32) (fun k => X (ix3 r l k)) Finset.univ) :=
  (floor_at _ r l).trans (congrArg (max _) (rowMax_at X r l))

/-- The largest of three real logits is a real. -/
theorem largest_real (X : FVec Ideal S64x131072x3 .f32) (r : Fin 64) (l : Fin 131072) (x : Fin 3 → ℝ)
    (hx : ∀ k, X (ix3 r l k) = (x k : EReal)) : ∃ m : ℝ, largest X (ix2 r l) = (m : EReal) := by
  have hb : Ideal.ofBits .f32 0xFF800000#32 = ⊥ := by
    simp [Ideal.ofBits, Ideal.ieee]
  refine ⟨max (x 0) (max (x 1) (x 2)), ?_⟩
  rw [largest_at, hb, show (fun k => X (ix3 r l k)) = fun k => (x k : EReal) from funext hx,
    show (Finset.univ : Finset (Fin 3)) = {0, 1, 2} from rfl]
  rw [Finset.fold_insert (by decide), Finset.fold_insert (by decide), Finset.fold_singleton]
  rw [max_eq_right bot_le, max_eq_left (bot_le : ⊥ ≤ (x 2 : EReal)), EReal.coe_strictMono.monotone.map_max, EReal.coe_strictMono.monotone.map_max]

theorem logSoftmax_at (X : FVec Ideal S64x131072x3 .f32) (r : Fin 64) (l : Fin 131072) (k : Fin 3) :
    logSoftmax X (ix3 r l k) = logProb (X (ix3 r l k)) (largest X (ix2 r l)) (∑ j, Ideal.exp (X (ix3 r l j) - largest X (ix2 r l))) := by
  unfold logSoftmax shifted perClass column logProb
  generalize largest X = M
  pointwise

/-- A class number of three is a word of zero, one or two. -/
def IsClass (w : BitVec 32) : Prop := w = 0#32 ∨ w = 1#32 ∨ w = 2#32

/-- A class is not counted from the end. -/
theorem wrap_class (w : BitVec 32) (h : IsClass w) :
    Scalar.select (IntOp.cmpi .slt w 0#32) (IntOp.addi w 3#32) w = w := by
  rcases h with h | h | h <;> subst h <;> rfl

theorem places_at (T : IVec S64x131072 32) (r : Fin 64) (l : Fin 131072) (k n : Fin 1) (h : IsClass (T (ix2 r l))) :
    places T (ix4 r l k n) = T (ix2 r l) := by
  refine Eq.trans ?_ (wrap_class _ h)
  unfold places classes
  pointwise

theorem inRange_at (T : IVec S64x131072 32) (r : Fin 64) (l : Fin 131072) (h : IsClass (T (ix2 r l))) :
    inRange T (ix3 r l 0) = 1#1 := by
  have hp : ∀ n, places T (ix4 r l 0 n) = T (ix2 r l) := fun n => places_at T r l 0 n h
  unfold inRange
  revert hp
  generalize places T = P
  intro hp
  pointwise
  simp only [hp]
  rw [show (Finset.univ : Finset (Fin 1)) = {0} from rfl, Finset.fold_singleton]
  rcases h with h | h | h <;> rw [h] <;> rfl

/-- The class of a target. -/
def classOf (w : BitVec 32) : Fin 3 := if w = 2#32 then 2 else if w = 1#32 then 1 else 0

theorem toInt_class (w : BitVec 32) (h : IsClass w) : w.toInt = (classOf w).val := by
  rcases h with h | h | h <;> subst h <;> rfl

theorem taken_at (L : FVec Ideal S64x131072x3 .f32) (T : IVec S64x131072 32) (r : Fin 64) (l : Fin 131072)
    (h : IsClass (T (ix2 r l))) : taken L T (ix2 r l) = L (ix3 r l (classOf (T (ix2 r l)))) := by
  have hg : Host.gather gather_S64x131072x3_S64x131072x1x1_S64x131072x1_n_2_01_01_2_3_111 L (places T) (ix3 r l 0)
      = L (ix3 r l (classOf (T (ix2 r l)))) := by
    rw [ix3_eq_valueIdx, ix3_eq_valueIdx]
    refine Reads.gather_last gather_S64x131072x3_S64x131072x1x1_S64x131072x1_n_2_01_01_2_3_111_wf L (places T) r l _ (ix4 r l 0 0) ?_ ?_
    · funext a
      match a with
      | ⟨0, _⟩ => rfl
      | ⟨1, _⟩ => rfl
      | ⟨2, _⟩ => rfl
      | ⟨3, _⟩ => rfl
    · rw [places_at T r l 0 0 h]
      exact toInt_class _ h
  have hr := inRange_at T r l h
  refine Eq.trans ?_ hg
  unfold taken
  revert hr
  generalize inRange T = P
  generalize Host.gather gather_S64x131072x3_S64x131072x1x1_S64x131072x1_n_2_01_01_2_3_111 L (places T) = Q
  intro hr
  pointwise
  rw [hr]
  rfl

theorem weights_at (A : FVec Ideal S3 .f32) (T : IVec S64x131072 32) (r : Fin 64) (l : Fin 131072)
    (h : IsClass (T (ix2 r l))) : weights A T (ix2 r l) = A (ix1 (classOf (T (ix2 r l)))) := by
  unfold weights
  rw [ix1_eq_valueIdx, ix2_eq_valueIdx]
  refine (ValueIdx.gather_take_apply (by decide) gather_S3_S64x131072x1_S64x131072_n_0_n_n_0_2_1_wf A _ _).trans (congrArg A (congrArg ValueIdx.ix1 (Fin.ext ?_)))
  have ht : ValueIdx.takeIdx (ix2 r l) = ix3 r l (0 : Fin 1) := by
    funext a
    match a with
    | ⟨0, _⟩ => rfl
    | ⟨1, _⟩ => rfl
    | ⟨2, _⟩ => rfl
  have hc := toInt_class _ h
  have hlt := (classOf (T (ix2 r l))).isLt
  rw [← ix2_eq_valueIdx]
  show min (BitVec.toInt _).toNat (3 - 1) = _
  rw [ht]
  pointwise
  rw [wrap_class _ h, hc]
  omega

/-- One loss from the target's own entry and weight. -/
theorem combine (P Q : FVec Ideal S64x131072 .f32) (r : Fin 64) (l : Fin 131072) :
    (mulf (mulf Q (Host.powf (subf (broadcastInDim S64x131072 ![] bcast_S_S64x131072 (constant S_ .f32 0x3F800000#32)) (Host.exp (Host.negf (Host.negf P))))
        (broadcastInDim S64x131072 ![] bcast_S_S64x131072 (constant S_ .f32 0x40000000#32)))) (Host.negf P)) (ix2 r l)
      = Q (ix2 r l) * Ideal.pow (1 - Ideal.exp (- -P (ix2 r l))) (Ideal.ofBits .f32 0x40000000#32) * -P (ix2 r l) := by
  pointwise

theorem losses_eq (X : FVec Ideal S64x131072x3 .f32) (T : IVec S64x131072 32) (A : FVec Ideal S3 .f32) (r : Fin 64) (l : Fin 131072) :
    losses X T A (ix2 r l) = weights A T (ix2 r l)
      * Ideal.pow (1 - Ideal.exp (- -taken (logSoftmax X) T (ix2 r l))) (Ideal.ofBits .f32 0x40000000#32)
      * -taken (logSoftmax X) T (ix2 r l) :=
  combine (taken (logSoftmax X) T) (weights A T) r l

theorem pick_class (w : BitVec 32) (a : Fin 3 → EReal) : pick w (a 0) (a 1) (a 2) = a (classOf w) := by
  rw [pick_eq]
  unfold classOf
  split
  · rfl
  · split <;> rfl

/-- On finite logits and a class in range the reference's loss is the kernel's. -/
theorem losses_at (X : FVec Ideal S64x131072x3 .f32) (T : IVec S64x131072 32) (A : FVec Ideal S3 .f32) (r : Fin 64) (l : Fin 131072)
    (hX : ∀ k, ∃ x : ℝ, X (ix3 r l k) = (x : EReal)) (h : IsClass (T (ix2 r l))) :
    losses X T A (ix2 r l) = focal (T (ix2 r l)) (X (ix3 r l 0)) (X (ix3 r l 1)) (X (ix3 r l 2)) (A (ix1 0)) (A (ix1 1)) (A (ix1 2)) := by
  choose x hx using hX
  obtain ⟨m, hm⟩ := largest_real X r l x hx
  have hA : pick (T (ix2 r l)) (A (ix1 0)) (A (ix1 1)) (A (ix1 2)) = A (ix1 (classOf (T (ix2 r l)))) :=
    pick_class (T (ix2 r l)) fun k => A (ix1 k)
  have hY : pick (T (ix2 r l)) (x 0) (x 1) (x 2) = (x (classOf (T (ix2 r l))) : EReal) :=
    pick_class (T (ix2 r l)) fun k => (x k : EReal)
  rw [losses_eq, weights_at A T r l h, taken_at _ T r l h, logSoftmax_at, hm, hx 0, hx 1, hx 2, focal_eq _ _ _ _ m,
    hA, hY, Fin.sum_univ_three, hx 0, hx 1, hx 2, hx (classOf _)]

end Cert.RefLoss
-- ==== Proof.Reference.lean ====
/-
  The reference's result: the mean of the losses over the mask.
-/
module

public import proofs.«01_k».proof.Proof.RefMask
public import proofs.«01_k».proof.Proof.RefLoss

@[expose] public section

set_option maxRecDepth 16384

noncomputable section

namespace Cert.Reference

open Cert.ReferenceIdeal Cert.ReferenceIdeal.Gen Idealize.ShloMosaic Idealize.ShloMosaic.TcCoe Cert.Spec

/-- The quotient of the two total sums, the losses `P` and the mask `Q` given. -/
theorem quotient (P Q : FVec Ideal S64x131072 .f32) (j : S_.Idx) :
    (Host.divf (Host.reduceAdd (mulf P Q) (constant S_ .f32 0x00000000#32) reducesTo_S64x131072_S_d0_1 h_S_)
        (Host.reduceAdd Q (constant S_ .f32 0x00000000#32) reducesTo_S64x131072_S_d0_1 h_S_)) j
      = Ideal.div (∑ r : Fin 64, ∑ l : Fin 131072, P (ix2 r l) * Q (ix2 r l)) (∑ r : Fin 64, ∑ l : Fin 131072, Q (ix2 r l)) := by
  pointwise

/-- The reference's result as it is written. -/
theorem result_eq (m : (ℓ : Loc nD τ sig) → Buf (Elt Ideal) ℓ) (c : Dev nD) (X : FVec Ideal S64x131072x3 .f32) (T : IVec S64x131072 32)
    (A : FVec Ideal S3 .f32) (hX : m ((c.tc : Thread nD τ).loc main_arg0) = X) (hT : m ((c.tc : Thread nD τ).loc main_arg1) = T)
    (hA : m ((c.tc : Thread nD τ).loc main_arg2) = A) :
    Value.res_main_v61 (F := Ideal) m c
      = Host.divf (Host.reduceAdd (mulf (RefLoss.losses X T A) (uitofp .f32 (RefMask.maskBits T))) (constant S_ .f32 0x00000000#32)
          reducesTo_S64x131072_S_d0_1 h_S_)
        (Host.reduceAdd (uitofp .f32 (RefMask.maskBits T)) (constant S_ .f32 0x00000000#32) reducesTo_S64x131072_S_d0_1 h_S_) := by
  unfold Value.res_main_v61
  rw [hX, hT, hA]
  rfl

/-- On finite logits and classes in range the reference's result is the mean of the losses over the mask. -/
theorem result (m : (ℓ : Loc nD τ sig) → Buf (Elt Ideal) ℓ) (c : Dev nD) (X : FVec Ideal S64x131072x3 .f32) (T : IVec S64x131072 32)
    (A : FVec Ideal S3 .f32) (hX : m ((c.tc : Thread nD τ).loc main_arg0) = X) (hT : m ((c.tc : Thread nD τ).loc main_arg1) = T)
    (hA : m ((c.tc : Thread nD τ).loc main_arg2) = A) (hfin : ∀ r l k, ∃ x : ℝ, X (ix3 r l k) = (x : EReal))
    (hcls : ∀ r l, RefLoss.IsClass (T (ix2 r l))) :
    Value.res_main_v61 (F := Ideal) m c = fun _ => mean
      (fun r l => FocalLoss.focal (T (ix2 r l)) (X (ix3 r l 0)) (X (ix3 r l 1)) (X (ix3 r l 2)) (A (ix1 0)) (A (ix1 1)) (A (ix1 2)))
      (fun r l => T (ix2 r l)) := by
  rw [result_eq m c X T A hX hT hA]
  funext j
  refine (quotient _ _ j).trans ?_
  unfold mean
  refine congrArg₂ Ideal.div (Finset.sum_congr rfl fun r _ => Finset.sum_congr rfl fun l _ => ?_)
    (Finset.sum_congr rfl fun r _ => Finset.sum_congr rfl fun l _ => ?_)
  · exact congrArg₂ (· * ·) (RefLoss.losses_at X T A r l (hfin r l) (hcls r l)) (RefMask.mask_at T r l)
  · exact RefMask.mask_at T r l

end Cert.Reference
-- ==== Proof.Domain.lean ====
/-
  What the precondition says of the arguments: every logit is a real number, and every target is one of the three classes.
-/
module

public import proofs.«01_k».proof.Pre_domain
public import proofs.«01_k».proof.Proof.RefLoss
public import Idealize.ShloMosaic.Lib.ReduceAll
public import Idealize.ShloMosaic.Lib.Pointwise

@[expose] public section

set_option maxRecDepth 16384

noncomputable section

namespace Cert.Domain

open Cert.Pre_domain Idealize.ShloMosaic

theorem facts : Facts where
  bcast_S_S64x131072x3 := by decide
  reducesTo_S64x131072x3_S_d0_1_2 := by decide
  h_S_ := by decide
  bcast_S_S64x131072 := by decide
  reducesTo_S64x131072_S_d0_1 := by decide

theorem ofBits_top : Ideal.ofBits .f32 0x7F800000#32 = (⊤ : EReal) := by
  simp [Ideal.ofBits, Ideal.ieee]

/-- An extended real of absolute value below infinity is a real number. -/
theorem real_of_abs (x : EReal) (h : Ideal.cmp .olt (max x (-x)) (Ideal.ofBits .f32 0x7F800000#32) = 1#1) :
    ∃ r : ℝ, x = (r : EReal) := by
  rw [ofBits_top] at h
  have hlt : max x (-x) < ⊤ := by
    by_contra hn
    have h' : BitVec.ofBool (decide (max x (-x) < ⊤)) = 1#1 := h
    rw [decide_eq_false hn] at h'
    exact absurd h' (by decide)
  induction x with
  | bot => exact absurd hlt (by simp)
  | top => exact absurd hlt (by simp)
  | coe r => exact ⟨r, rfl⟩

theorem class_of_range (w : BitVec 32) (h : IntOp.andi (IntOp.cmpi .sge w 0#32) (IntOp.cmpi .slt w 3#32) = 1#1) : RefLoss.IsClass w := by
  obtain ⟨h0, h1⟩ := IntOp.andi_eq_one.1 h
  have h0 := IntOp.cmpi_sge.1 h0
  have h1 := IntOp.cmpi_slt.1 h1
  have e0 : (0#32 : BitVec 32).toInt = 0 := by decide
  have e3 : (3#32 : BitVec 32).toInt = 3 := by decide
  rw [e0] at h0
  rw [e3] at h1
  have hw : w = BitVec.ofInt 32 w.toInt := (BitVec.ofInt_toInt).symm
  have : w.toInt = 0 ∨ w.toInt = 1 ∨ w.toInt = 2 := by omega
  unfold RefLoss.IsClass
  rcases this with h | h | h
  · exact .inl (by rw [hw, h]; rfl)
  · exact .inr (.inl (by rw [hw, h]; rfl))
  · exact .inr (.inr (by rw [hw, h]; rfl))

section
variable [Facts] (X : FVec Ideal S64x131072x3 .f32) (T : IVec S64x131072 32) (A : FVec Ideal S3 .f32)
  (h : fn (F := Ideal) X T A = fun _ => 1#1)
include h

theorem both : (∀ i, cmpf .olt (Host.absf X) (broadcastInDim S64x131072x3 ![] Facts.bcast_S_S64x131072x3 (constant (F := Ideal) S_ .f32 0x7F800000#32)) i = 1#1)
    ∧ ∀ i, andi (cmpi .sge T (broadcastInDim S64x131072 ![] Facts.bcast_S_S64x131072 (constantI S_ 32 0#32)))
        (cmpi .slt T (broadcastInDim S64x131072 ![] Facts.bcast_S_S64x131072 (constantI S_ 32 3#32))) i = 1#1 := by
  have j : Shape.Idx S_ := fun d => d.elim0
  obtain ⟨h1, h2⟩ := IntOp.andi_eq_one.1 (congrFun h j)
  exact ⟨fun i => Host.reduce_andi_all _ _ _ _ j h1 i, fun i => Host.reduce_andi_all _ _ _ _ j h2 i⟩

theorem finite (i) : ∃ r : ℝ, X i = (r : EReal) := real_of_abs _ ((both X T A h).1 i)

theorem classes (i) : RefLoss.IsClass (T i) := class_of_range _ ((both X T A h).2 i)

end

end Cert.Domain
-- ==== Proof.lean ====
/-
  The kernel's masked focal loss: it runs safely as printed and at exact arithmetic, and at exact arithmetic, on finite
  logits and classes in range, it returns what the reference returns. Both results are `Cert.Spec.mean` of the losses over
  the mask: `Cert.Tail.result` says it of the kernel, `Cert.Reference.result` of the reference.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Tail
public import proofs.«01_k».proof.Proof.Reference
public import proofs.«01_k».proof.Proof.Domain
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel at exact arithmetic, on any logits: its result is the mean of the losses over the mask. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v0) = (fun _ => Spec.mean (Blocks.loss m c) (Blocks.classes m c))
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)) := by
  refine θ_run_mono (θ_run_and (KernelIdeal.Gen.run_main m g) (KernelIdeal.Gen.unchanged m g)) ?_
  rintro r ⟨h, hu⟩ c
  refine ⟨?_, hu c⟩
  exact ((h c).2 KernelIdeal.main_v0 (by decide)).trans (Tail.result m c)

/-- The reference at exact arithmetic, on finite logits and classes in range, returns the mean too. -/
theorem reference_value [Pre_domain.Facts] (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (hpre : Pre_KernelIdeal_domain m) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    ReferenceIdeal.Value.res_main_v61 (F := Ideal) m' c = fun _ => Spec.mean (Blocks.loss m c) (Blocks.classes m c) :=
  Reference.result m' c (Blocks.logits m c) (Blocks.targets m c) (Blocks.weights m c) h0 h1 h2
    (fun _ _ _ => Domain.finite _ _ _ (hpre c) _) (fun _ _ => Domain.classes _ _ _ (hpre c) _)

theorem frame_reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2))
      ∧ r.2.sem = fun _ => 0) :=
  θ_run_mono (ReferenceIdeal.Value.run m g) fun r h => ⟨fun c => (h c).2, sem_eq_zero_of_no_sems (by decide) r.2⟩

theorem equal [hPre_domain : Pre_domain.Facts] : algebraic_KernelIdeal_ReferenceIdeal_pre_domain := by
  intro m g m' g' hpre hagree
  refine ⟨fun c _ => Spec.mean (Blocks.loss m c) (Blocks.classes m c), kernel_run m g, θ_run_mono (ReferenceIdeal.Value.run m' g') fun r h c => ?_⟩
  obtain ⟨h0, h1, h2⟩ := hagree c
  exact ⟨(h c).1.trans (reference_value m m' hpre c h0 h1 h2), (h c).2⟩

theorem claim : Cert.Claim :=
  ⟨Cert.Kernel.Gen.facts, Cert.KernelIdeal.Gen.facts, Cert.ReferenceIdeal.Gen.facts, Domain.facts,
    fun m g _ => Kernel.Gen.frame m g, fun m g _ => KernelIdeal.Gen.frame m g, fun m g _ => KernelIdeal.Gen.frame m g,
    fun m g _ => frame_reference m g, fun m g _ => frame_reference m g, trivial, equal (hPre_domain := Domain.facts)⟩

end Cert.Proof

end
